-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 1024]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S2048x512 : Shape := ⟨2, ![2048, 512]⟩
abbrev S1024x512 : Shape := ⟨2, ![1024, 512]⟩
abbrev S_ : Shape := ⟨0, ![]⟩
abbrev S17 : Shape := ⟨1, ![17]⟩
abbrev S1x2048x512 : Shape := ⟨3, ![1, 2048, 512]⟩
abbrev S1 : Shape := ⟨1, ![1]⟩
abbrev S64x512 : Shape := ⟨2, ![64, 512]⟩
abbrev S1x64x512 : Shape := ⟨3, ![1, 64, 512]⟩
abbrev S32x512 : Shape := ⟨2, ![32, 512]⟩
abbrev S1x32x512 : Shape := ⟨3, ![1, 32, 512]⟩

abbrev nBuf : Space → Nat
  | .hbm => 2
  | .vmem => 4
  | .smem => 0
  | _ => 0

abbrev bufTy : (tb : Table) → Fin (tcTables nBuf tb) → BufTy
  | .hbm, ⟨0, _⟩ => ⟨S1x2048x1024, .f32⟩
  | .hbm, ⟨1, _⟩ => ⟨S2048x512, .f32⟩
  | .local _ .vmem, ⟨0, _⟩ => ⟨S2048x512, .f32⟩
  | .local _ .vmem, ⟨1, _⟩ => ⟨S2048x512, .f32⟩
  | .local _ .vmem, ⟨2, _⟩ => ⟨S1024x512, .f32⟩
  | .local _ .vmem, ⟨3, _⟩ => ⟨S1024x512, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 3 → Nat :=
  let c0_i32 : BitVec 32 := 0#32
  let c0_i32_8 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v11 : BitVec 32 := Scalar.muli v5 c512_i32
  ![0, 0, v11.toNat]
def k0_dev1 (d0 : Dev nD) : Nat :=
  let c0_i32_11 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_10 : BitVec 32 := 2#32
  let v17 : BitVec 32 := Scalar.muli v2 c2_i32_10
  let v18 : BitVec 32 := Scalar.addi c0_i32_11 v17
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_12 : BitVec 32 := 1#32
  let v19 : BitVec 32 := Scalar.muli v6 c1_i32_12
  let v20 : BitVec 32 := Scalar.addi v18 v19
  v20.toNat
def k0_dev2 (d0 : Dev nD) : Nat :=
  let c0_i32_15 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_14 : BitVec 32 := 2#32
  let v21 : BitVec 32 := Scalar.muli v7 c2_i32_14
  let v22 : BitVec 32 := Scalar.addi c0_i32_15 v21
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_16 : BitVec 32 := 1#32
  let v23 : BitVec 32 := Scalar.muli v5 c1_i32_16
  let v24 : BitVec 32 := Scalar.addi v22 v23
  v24.toNat
def k0_off2 (d0 : Dev nD) (c0_i32_18 : BitVec 32) : Fin 3 → Nat :=
  let c0_i32_19 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  let v25 : BitVec 32 := Scalar.addi v8 c0_i32_18
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v12 : BitVec 32 := Scalar.subi c1_i32_6 v5
  let c512_i32_7 : BitVec 32 := 512#32
  let v13 : BitVec 32 := Scalar.muli v12 c512_i32_7
  ![0, v25.toNat, v13.toNat]
def k0_dev3 (d0 : Dev nD) : Nat :=
  let c0_i32_23 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_22 : BitVec 32 := 2#32
  let v26 : BitVec 32 := Scalar.muli v2 c2_i32_22
  let v27 : BitVec 32 := Scalar.addi c0_i32_23 v26
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_24 : BitVec 32 := 1#32
  let v28 : BitVec 32 := Scalar.muli v6 c1_i32_24
  let v29 : BitVec 32 := Scalar.addi v27 v28
  v29.toNat
def k0_dev4 (d0 : Dev nD) : Nat :=
  let c0_i32_31 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_30 : BitVec 32 := 2#32
  let v38 : BitVec 32 := Scalar.muli v2 c2_i32_30
  let v39 : BitVec 32 := Scalar.addi c0_i32_31 v38
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_32 : BitVec 32 := 1#32
  let v40 : BitVec 32 := Scalar.muli v6 c1_i32_32
  let v41 : BitVec 32 := Scalar.addi v39 v40
  v41.toNat
def k0_dev5 (d0 : Dev nD) : Nat :=
  let c0_i32_39 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_38 : BitVec 32 := 2#32
  let v50 : BitVec 32 := Scalar.muli v2 c2_i32_38
  let v51 : BitVec 32 := Scalar.addi c0_i32_39 v50
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_40 : BitVec 32 := 1#32
  let v52 : BitVec 32 := Scalar.muli v6 c1_i32_40
  let v53 : BitVec 32 := Scalar.addi v51 v52
  v53.toNat
def k0_dev6 (d0 : Dev nD) : Nat :=
  let c0_i32_46 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_45 : BitVec 32 := 2#32
  let v62 : BitVec 32 := Scalar.muli v2 c2_i32_45
  let v63 : BitVec 32 := Scalar.addi c0_i32_46 v62
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_47 : BitVec 32 := 1#32
  let v64 : BitVec 32 := Scalar.muli v6 c1_i32_47
  let v65 : BitVec 32 := Scalar.addi v63 v64
  v65.toNat
def k0_dev7 (d0 : Dev nD) : Nat :=
  let c0_i32_53 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_52 : BitVec 32 := 2#32
  let v74 : BitVec 32 := Scalar.muli v2 c2_i32_52
  let v75 : BitVec 32 := Scalar.addi c0_i32_53 v74
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_54 : BitVec 32 := 1#32
  let v76 : BitVec 32 := Scalar.muli v6 c1_i32_54
  let v77 : BitVec 32 := Scalar.addi v75 v76
  v77.toNat
def k0_dev8 (d0 : Dev nD) : Nat :=
  let c0_i32_60 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_59 : BitVec 32 := 2#32
  let v86 : BitVec 32 := Scalar.muli v2 c2_i32_59
  let v87 : BitVec 32 := Scalar.addi c0_i32_60 v86
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_61 : BitVec 32 := 1#32
  let v88 : BitVec 32 := Scalar.muli v6 c1_i32_61
  let v89 : BitVec 32 := Scalar.addi v87 v88
  v89.toNat
def k0_dev9 (d0 : Dev nD) : Nat :=
  let c0_i32_67 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_66 : BitVec 32 := 2#32
  let v98 : BitVec 32 := Scalar.muli v2 c2_i32_66
  let v99 : BitVec 32 := Scalar.addi c0_i32_67 v98
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_68 : BitVec 32 := 1#32
  let v100 : BitVec 32 := Scalar.muli v6 c1_i32_68
  let v101 : BitVec 32 := Scalar.addi v99 v100
  v101.toNat
def k0_dev10 (d0 : Dev nD) : Nat :=
  let c0_i32_74 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_73 : BitVec 32 := 2#32
  let v110 : BitVec 32 := Scalar.muli v2 c2_i32_73
  let v111 : BitVec 32 := Scalar.addi c0_i32_74 v110
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_75 : BitVec 32 := 1#32
  let v112 : BitVec 32 := Scalar.muli v6 c1_i32_75
  let v113 : BitVec 32 := Scalar.addi v111 v112
  v113.toNat
def k0_dev11 (d0 : Dev nD) : Nat :=
  let c0_i32_82 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_81 : BitVec 32 := 2#32
  let v122 : BitVec 32 := Scalar.muli v2 c2_i32_81
  let v123 : BitVec 32 := Scalar.addi c0_i32_82 v122
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_83 : BitVec 32 := 1#32
  let v124 : BitVec 32 := Scalar.muli v6 c1_i32_83
  let v125 : BitVec 32 := Scalar.addi v123 v124
  v125.toNat
def k0_dev12 (d0 : Dev nD) : Nat :=
  let c0_i32_89 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_88 : BitVec 32 := 2#32
  let v134 : BitVec 32 := Scalar.muli v2 c2_i32_88
  let v135 : BitVec 32 := Scalar.addi c0_i32_89 v134
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_90 : BitVec 32 := 1#32
  let v136 : BitVec 32 := Scalar.muli v6 c1_i32_90
  let v137 : BitVec 32 := Scalar.addi v135 v136
  v137.toNat
def k0_dev13 (d0 : Dev nD) : Nat :=
  let c0_i32_96 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_95 : BitVec 32 := 2#32
  let v146 : BitVec 32 := Scalar.muli v2 c2_i32_95
  let v147 : BitVec 32 := Scalar.addi c0_i32_96 v146
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_97 : BitVec 32 := 1#32
  let v148 : BitVec 32 := Scalar.muli v6 c1_i32_97
  let v149 : BitVec 32 := Scalar.addi v147 v148
  v149.toNat
def k0_dev14 (d0 : Dev nD) : Nat :=
  let c0_i32_103 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_102 : BitVec 32 := 2#32
  let v158 : BitVec 32 := Scalar.muli v2 c2_i32_102
  let v159 : BitVec 32 := Scalar.addi c0_i32_103 v158
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_104 : BitVec 32 := 1#32
  let v160 : BitVec 32 := Scalar.muli v6 c1_i32_104
  let v161 : BitVec 32 := Scalar.addi v159 v160
  v161.toNat
def k0_dev15 (d0 : Dev nD) : Nat :=
  let c0_i32_110 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_109 : BitVec 32 := 2#32
  let v170 : BitVec 32 := Scalar.muli v2 c2_i32_109
  let v171 : BitVec 32 := Scalar.addi c0_i32_110 v170
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_111 : BitVec 32 := 1#32
  let v172 : BitVec 32 := Scalar.muli v6 c1_i32_111
  let v173 : BitVec 32 := Scalar.addi v171 v172
  v173.toNat
def k0_dev16 (d0 : Dev nD) : Nat :=
  let c0_i32_117 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_116 : BitVec 32 := 2#32
  let v182 : BitVec 32 := Scalar.muli v2 c2_i32_116
  let v183 : BitVec 32 := Scalar.addi c0_i32_117 v182
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_118 : BitVec 32 := 1#32
  let v184 : BitVec 32 := Scalar.muli v6 c1_i32_118
  let v185 : BitVec 32 := Scalar.addi v183 v184
  v185.toNat
def k0_dev17 (d0 : Dev nD) : Nat :=
  let c0_i32_124 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_123 : BitVec 32 := 2#32
  let v194 : BitVec 32 := Scalar.muli v2 c2_i32_123
  let v195 : BitVec 32 := Scalar.addi c0_i32_124 v194
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_125 : BitVec 32 := 1#32
  let v196 : BitVec 32 := Scalar.muli v6 c1_i32_125
  let v197 : BitVec 32 := Scalar.addi v195 v196
  v197.toNat
def k0_off3 (d0 : Dev nD) (c960_i32 : BitVec 32) : Fin 3 → Nat :=
  let c0_i32_128 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  let v205 : BitVec 32 := Scalar.addi v8 c960_i32
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v12 : BitVec 32 := Scalar.subi c1_i32_6 v5
  let c512_i32_7 : BitVec 32 := 512#32
  let v13 : BitVec 32 := Scalar.muli v12 c512_i32_7
  ![0, v205.toNat, v13.toNat]
def k0_dev18 (d0 : Dev nD) : Nat :=
  let c0_i32_131 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_130 : BitVec 32 := 2#32
  let v206 : BitVec 32 := Scalar.muli v2 c2_i32_130
  let v207 : BitVec 32 := Scalar.addi c0_i32_131 v206
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_132 : BitVec 32 := 1#32
  let v208 : BitVec 32 := Scalar.muli v6 c1_i32_132
  let v209 : BitVec 32 := Scalar.addi v207 v208
  v209.toNat
def k0_dev19 (d0 : Dev nD) : Nat :=
  let c0_i32_138 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_137 : BitVec 32 := 2#32
  let v218 : BitVec 32 := Scalar.muli v2 c2_i32_137
  let v219 : BitVec 32 := Scalar.addi c0_i32_138 v218
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_139 : BitVec 32 := 1#32
  let v220 : BitVec 32 := Scalar.muli v6 c1_i32_139
  let v221 : BitVec 32 := Scalar.addi v219 v220
  v221.toNat
def k0_dev20 (d0 : Dev nD) : Nat :=
  let c0_i32_155 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_154 : BitVec 32 := 2#32
  let v240 : BitVec 32 := Scalar.muli v7 c2_i32_154
  let v241 : BitVec 32 := Scalar.addi c0_i32_155 v240
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_156 : BitVec 32 := 1#32
  let v242 : BitVec 32 := Scalar.muli v5 c1_i32_156
  let v243 : BitVec 32 := Scalar.addi v241 v242
  v243.toNat
def k0_off4 (d0 : Dev nD) (c0_i32_161 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  let v250 : BitVec 32 := Scalar.addi v8 c0_i32_161
  let v251 : Index := Scalar.indexCast v250
  let c0 : Index := 0#32
  ![v251.toNat, 0]
def k0_dev21 (d0 : Dev nD) : Nat :=
  let c0_i32_177 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_176 : BitVec 32 := 2#32
  let v267 : BitVec 32 := Scalar.muli v7 c2_i32_176
  let v268 : BitVec 32 := Scalar.addi c0_i32_177 v267
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_178 : BitVec 32 := 1#32
  let v269 : BitVec 32 := Scalar.muli v5 c1_i32_178
  let v270 : BitVec 32 := Scalar.addi v268 v269
  v270.toNat
def k0_dev22 (d0 : Dev nD) : Nat :=
  let c0_i32_199 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_198 : BitVec 32 := 2#32
  let v294 : BitVec 32 := Scalar.muli v7 c2_i32_198
  let v295 : BitVec 32 := Scalar.addi c0_i32_199 v294
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_200 : BitVec 32 := 1#32
  let v296 : BitVec 32 := Scalar.muli v5 c1_i32_200
  let v297 : BitVec 32 := Scalar.addi v295 v296
  v297.toNat
def k0_dev23 (d0 : Dev nD) : Nat :=
  let c0_i32_221 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_220 : BitVec 32 := 2#32
  let v321 : BitVec 32 := Scalar.muli v7 c2_i32_220
  let v322 : BitVec 32 := Scalar.addi c0_i32_221 v321
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_222 : BitVec 32 := 1#32
  let v323 : BitVec 32 := Scalar.muli v5 c1_i32_222
  let v324 : BitVec 32 := Scalar.addi v322 v323
  v324.toNat
def k0_dev24 (d0 : Dev nD) : Nat :=
  let c0_i32_243 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_242 : BitVec 32 := 2#32
  let v348 : BitVec 32 := Scalar.muli v7 c2_i32_242
  let v349 : BitVec 32 := Scalar.addi c0_i32_243 v348
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_244 : BitVec 32 := 1#32
  let v350 : BitVec 32 := Scalar.muli v5 c1_i32_244
  let v351 : BitVec 32 := Scalar.addi v349 v350
  v351.toNat
def k0_dev25 (d0 : Dev nD) : Nat :=
  let c0_i32_265 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_264 : BitVec 32 := 2#32
  let v375 : BitVec 32 := Scalar.muli v7 c2_i32_264
  let v376 : BitVec 32 := Scalar.addi c0_i32_265 v375
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_266 : BitVec 32 := 1#32
  let v377 : BitVec 32 := Scalar.muli v5 c1_i32_266
  let v378 : BitVec 32 := Scalar.addi v376 v377
  v378.toNat
def k0_dev26 (d0 : Dev nD) : Nat :=
  let c0_i32_287 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_286 : BitVec 32 := 2#32
  let v402 : BitVec 32 := Scalar.muli v7 c2_i32_286
  let v403 : BitVec 32 := Scalar.addi c0_i32_287 v402
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_288 : BitVec 32 := 1#32
  let v404 : BitVec 32 := Scalar.muli v5 c1_i32_288
  let v405 : BitVec 32 := Scalar.addi v403 v404
  v405.toNat
def k0_dev27 (d0 : Dev nD) : Nat :=
  let c0_i32_309 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_308 : BitVec 32 := 2#32
  let v429 : BitVec 32 := Scalar.muli v7 c2_i32_308
  let v430 : BitVec 32 := Scalar.addi c0_i32_309 v429
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_310 : BitVec 32 := 1#32
  let v431 : BitVec 32 := Scalar.muli v5 c1_i32_310
  let v432 : BitVec 32 := Scalar.addi v430 v431
  v432.toNat
def k0_dev28 (d0 : Dev nD) : Nat :=
  let c0_i32_331 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_330 : BitVec 32 := 2#32
  let v456 : BitVec 32 := Scalar.muli v7 c2_i32_330
  let v457 : BitVec 32 := Scalar.addi c0_i32_331 v456
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_332 : BitVec 32 := 1#32
  let v458 : BitVec 32 := Scalar.muli v5 c1_i32_332
  let v459 : BitVec 32 := Scalar.addi v457 v458
  v459.toNat
def k0_dev29 (d0 : Dev nD) : Nat :=
  let c0_i32_353 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_352 : BitVec 32 := 2#32
  let v483 : BitVec 32 := Scalar.muli v7 c2_i32_352
  let v484 : BitVec 32 := Scalar.addi c0_i32_353 v483
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_354 : BitVec 32 := 1#32
  let v485 : BitVec 32 := Scalar.muli v5 c1_i32_354
  let v486 : BitVec 32 := Scalar.addi v484 v485
  v486.toNat
def k0_dev30 (d0 : Dev nD) : Nat :=
  let c0_i32_375 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_374 : BitVec 32 := 2#32
  let v510 : BitVec 32 := Scalar.muli v7 c2_i32_374
  let v511 : BitVec 32 := Scalar.addi c0_i32_375 v510
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_376 : BitVec 32 := 1#32
  let v512 : BitVec 32 := Scalar.muli v5 c1_i32_376
  let v513 : BitVec 32 := Scalar.addi v511 v512
  v513.toNat
def k0_dev31 (d0 : Dev nD) : Nat :=
  let c0_i32_397 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_396 : BitVec 32 := 2#32
  let v537 : BitVec 32 := Scalar.muli v7 c2_i32_396
  let v538 : BitVec 32 := Scalar.addi c0_i32_397 v537
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_398 : BitVec 32 := 1#32
  let v539 : BitVec 32 := Scalar.muli v5 c1_i32_398
  let v540 : BitVec 32 := Scalar.addi v538 v539
  v540.toNat
def k0_dev32 (d0 : Dev nD) : Nat :=
  let c0_i32_419 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_418 : BitVec 32 := 2#32
  let v564 : BitVec 32 := Scalar.muli v7 c2_i32_418
  let v565 : BitVec 32 := Scalar.addi c0_i32_419 v564
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_420 : BitVec 32 := 1#32
  let v566 : BitVec 32 := Scalar.muli v5 c1_i32_420
  let v567 : BitVec 32 := Scalar.addi v565 v566
  v567.toNat
def k0_dev33 (d0 : Dev nD) : Nat :=
  let c0_i32_441 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_440 : BitVec 32 := 2#32
  let v591 : BitVec 32 := Scalar.muli v7 c2_i32_440
  let v592 : BitVec 32 := Scalar.addi c0_i32_441 v591
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_442 : BitVec 32 := 1#32
  let v593 : BitVec 32 := Scalar.muli v5 c1_i32_442
  let v594 : BitVec 32 := Scalar.addi v592 v593
  v594.toNat
def k0_dev34 (d0 : Dev nD) : Nat :=
  let c0_i32_463 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_462 : BitVec 32 := 2#32
  let v618 : BitVec 32 := Scalar.muli v7 c2_i32_462
  let v619 : BitVec 32 := Scalar.addi c0_i32_463 v618
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_464 : BitVec 32 := 1#32
  let v620 : BitVec 32 := Scalar.muli v5 c1_i32_464
  let v621 : BitVec 32 := Scalar.addi v619 v620
  v621.toNat
def k0_dev35 (d0 : Dev nD) : Nat :=
  let c0_i32_485 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_484 : BitVec 32 := 2#32
  let v645 : BitVec 32 := Scalar.muli v7 c2_i32_484
  let v646 : BitVec 32 := Scalar.addi c0_i32_485 v645
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_486 : BitVec 32 := 1#32
  let v647 : BitVec 32 := Scalar.muli v5 c1_i32_486
  let v648 : BitVec 32 := Scalar.addi v646 v647
  v648.toNat
def k0_off5 (d0 : Dev nD) (c960_i32_491 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  let v655 : BitVec 32 := Scalar.addi v8 c960_i32_491
  let v656 : Index := Scalar.indexCast v655
  let c0_492 : Index := 0#32
  ![v656.toNat, 0]
def k0_dev36 (d0 : Dev nD) : Nat :=
  let c0_i32_507 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_506 : BitVec 32 := 2#32
  let v672 : BitVec 32 := Scalar.muli v7 c2_i32_506
  let v673 : BitVec 32 := Scalar.addi c0_i32_507 v672
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_508 : BitVec 32 := 1#32
  let v674 : BitVec 32 := Scalar.muli v5 c1_i32_508
  let v675 : BitVec 32 := Scalar.addi v673 v674
  v675.toNat
def k0_off6 (d0 : Dev nD) (c0_i32_527 : BitVec 32) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c1024_i32_5 : BitVec 32 := 1024#32
  let v10 : BitVec 32 := Scalar.muli v9 c1024_i32_5
  let v698 : BitVec 32 := Scalar.addi v10 c0_i32_527
  let v699 : Index := Scalar.indexCast v698
  let c0_528 : Index := 0#32
  ![v699.toNat, 0]
def k0_off7 (d0 : Dev nD) (c960_i32_752 : BitVec 32) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c1024_i32_5 : BitVec 32 := 1024#32
  let v10 : BitVec 32 := Scalar.muli v9 c1024_i32_5
  let v938 : BitVec 32 := Scalar.addi v10 c960_i32_752
  let v939 : Index := Scalar.indexCast v938
  let c0_753 : Index := 0#32
  ![v939.toNat, 0]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x2048x1024 : Shape := ⟨3, ![2, 2048, 1024]⟩
abbrev S_ : Shape := ⟨0, ![]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S_, .f32⟩
  | .hbm, ⟨2, _⟩ => ⟨S2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Loops.lean ====
/- The kernel's body, written as its five loops over the seventeen tiles.

   A half of the rows (1024) is cut into seventeen tiles: fifteen of 64 rows, then two of 32. The body starts the copy of
   its own block into local memory, meets its two neighbours at the barrier, sends its tiles to the neighbour of the other
   column block, waits for its local copy, then per tile receives, forwards and adds, then per tile receives and adds, and
   at last waits for everything it sent. -/
module

public import proofs.«01_k».proof.Proof.Gen.KernelIdeal.Frame
public import proofs.«01_k».proof.Proof.Gen.KernelIdeal.Skeleton

@[expose] public section

set_option maxRecDepth 65536

noncomputable section

namespace Cert.KernelIdeal.Sum

open Cert.KernelIdeal Cert.KernelIdeal.Gen
open Idealize.ShloMosaic Idealize.ShloMosaic.TcCoe
open Idealize.SL Idealize.SL.Sem

variable {F : FTy → Type} [FloatOps F]

/-- The seventeen tiles of a half of the rows. -/
abbrev Tile := Fin 17

/-- A tile's first row within its half. -/
def row (t : Tile) : ℕ := if t.val < 16 then 64 * t.val else 992

/-- A tile's number of rows. -/
def rows (t : Tile) : ℕ := if t.val < 15 then 64 else 32

/-- A tile's shape. -/
abbrev TS (t : Tile) : Shape := ⟨2, ![rows t, 512]⟩

/-- A tile's shape as a block of the argument, which has a leading axis of size one. -/
abbrev TS3 (t : Tile) : Shape := ⟨3, ![1, rows t, 512]⟩

theorem ts_pos : ∀ t : Tile, 0 < (TS t).numel := by decide
theorem ts_squeezes : ∀ t : Tile, (TS3 t).Squeezes (TS t) := by decide
theorem one_inb : ∀ (t : Tile) (a : Fin 1), (![t.val] : Fin 1 → ℕ) a + S1.size a ≤ S17.size a := by decide
theorem tile_inb : ∀ (t : Tile) (a : Fin 2), (![row t, 0] : Fin 2 → ℕ) a + (TS t).size a ≤ S1024x512.size a := by decide
theorem src_inb : ∀ (d : Dev nD) (t : Tile) (a : Fin 3), k0_off2 d (BitVec.ofNat 32 (row t)) a + (TS3 t).size a ≤ S1x2048x1024.size a := by
  decide +kernel
theorem me_inb : ∀ (d : Dev nD) (t : Tile) (a : Fin 2), k0_off4 d (BitVec.ofNat 32 (row t)) a + (TS t).size a ≤ S2048x512.size a := by
  decide +kernel
theorem other_inb : ∀ (d : Dev nD) (t : Tile) (a : Fin 2), k0_off6 d (BitVec.ofNat 32 (row t)) a + (TS t).size a ≤ S2048x512.size a := by
  decide +kernel

/-! ## The views of a tile -/

/-- The semaphore of tile `t` in an array of seventeen. -/
abbrev semOf (a : DmaSems sig S17) (t : Tile) : DmaSem sig :=
  ((a.slice (Rect.unit (s := S17) ![t.val] S1.size (one_inb t))).squeeze S_ squeezes_S1_S_).sem

/-- Tile `t` of a receive buffer. -/
abbrev tile (b : Memref sig .tc .vmem S1024x512 .f32) (t : Tile) : Memref sig .tc .vmem (TS t) .f32 :=
  b.slice (Rect.unit (s := S1024x512) ![row t, 0] (TS t).size (tile_inb t)) (fun _ => rfl)

/-- The block of the argument that device `d` sends as tile `t`: its rows of the device's half, the columns of the other
    column block. -/
abbrev srcTile (x : Memref sig .tc .hbm S1x2048x1024 .f32) (d : Dev nD) (t : Tile) : Memref sig .tc .hbm (TS t) .f32 :=
  (x.slice (Rect.unit (s := S1x2048x1024) (k0_off2 d (BitVec.ofNat 32 (row t))) (TS3 t).size (src_inb d t)) (fun _ => rfl)).squeeze
    (TS t) (ts_squeezes t)

/-- The block of the argument that device `d` keeps: its own columns. -/
abbrev srcOwn (x : Memref sig .tc .hbm S1x2048x1024 .f32) (d : Dev nD) : Memref sig .tc .hbm S2048x512 .f32 :=
  (x.slice (Rect.unit (s := S1x2048x1024) (k0_off1 d) S1x2048x512.size (k0_off1_inb d)) (fun _ => rfl)).squeeze
    S2048x512 squeezes_S1x2048x512_S2048x512

/-- The rows of tile `t` in the device's own half of a full-height buffer. -/
abbrev rectMe (d : Dev nD) (t : Tile) : Rect S2048x512 :=
  Rect.unit (s := S2048x512) (k0_off4 d (BitVec.ofNat 32 (row t))) (TS t).size (me_inb d t)

/-- The rows of tile `t` in the other half of a full-height buffer. -/
abbrev rectOther (d : Dev nD) (t : Tile) : Rect S2048x512 :=
  Rect.unit (s := S2048x512) (k0_off6 d (BitVec.ofNat 32 (row t))) (TS t).size (other_inb d t)

/-- The rows of tile `t` in a receive buffer. -/
abbrev rectRecv (t : Tile) : Rect S1024x512 :=
  Rect.unit (s := S1024x512) ![row t, 0] (TS t).size (tile_inb t)

/-- The neighbour of the other column block, in the same half of the rows. -/
abbrev yDev (d : Dev nD) : Dev nD := ⟨k0_dev1 d, k0_dev1_lt d⟩

/-- The neighbour of the other half of the rows, with the same column block. -/
abbrev xDev (d : Dev nD) : Dev nD := ⟨k0_dev2 d, k0_dev2_lt d⟩

/-- The barrier semaphore the kernel is given. -/
abbrev barSems : Sems sig S_ := SemArray.scalar (sig.barrier 0 rfl)

/-! ## The loops -/

/-- The program of every tile of a list in turn. -/
def each : List Tile → (Tile → Prog (TpuEff nD τ sig (Elt F) Λ₀ .tc) PUnit) → Prog (TpuEff nD τ sig (Elt F) Λ₀ .tc) PUnit
  | [], _ => pure ⟨⟩
  | t :: ts, p => p t >>= fun _ => each ts p

/-- The tiles in order. -/
abbrev tiles : List Tile := [0, 1, 2, 3, 4, 5, 6, 7, 8, 9, 10, 11, 12, 13, 14, 15, 16]

/-- Add two tiles and store the sum at the rectangle `r` of the result: the first tile read at `r` of the local block, the
    second at tile `t` of the receive buffer `b`. -/
def addTile (out loc : Memref sig .tc .vmem S2048x512 .f32) (b : Memref sig .tc .vmem S1024x512 .f32) (t : Tile) (off : Fin 2 → ℕ)
    (h : ∀ a, off a + (TS t).size a ≤ S2048x512.size a) : Prog (TpuEff nD τ sig (Elt F) Λ₀ .tc) PUnit := do
  let v : Vec F (TS t) .f32 ← Prog.lift (.load loc (Rect.unit (s := S2048x512) off (TS t).size h).toLoadRect (View.loadsAt_vmem (ts_pos t)))
  let w : Vec F (TS t) .f32 ← Prog.lift (.load b (rectRecv t).toLoadRect (View.loadsAt_vmem (ts_pos t)))
  let _ : Vec F (TS t) .f32 ← Prog.lift (.load out (Rect.unit (s := S2048x512) off (TS t).size h).toLoadRect (View.loadsAt_vmem (ts_pos t)))
  Prog.lift (.store out (Rect.unit (s := S2048x512) off (TS t).size h) (addf v w) Finset.univ (View.stores_vmem_bits_univ (ts_pos t) rfl) (.inl rfl))

variable (x : Memref sig .tc .hbm S1x2048x1024 .f32) (hx : x.IsWhole) (out : Memref sig .tc .vmem S2048x512 .f32) (hout : out.IsWhole)
  (loc : Memref sig .tc .vmem S2048x512 .f32) (hloc : loc.IsWhole) (ry : Memref sig .tc .vmem S1024x512 .f32) (hry : ry.IsWhole)
  (rx : Memref sig .tc .vmem S1024x512 .f32) (hrx : rx.IsWhole)
  (sl : DmaSems sig S_) (sy ryS sx rxS : DmaSems sig S17)

/-- The first stage's send of tile `t`. -/
def sendTile (d : Dev nD) (t : Tile) : Prog (TpuEff nD τ sig (Elt F) Λ₀ .tc) PUnit :=
  Prog.lift (.enqueueDma (srcTile x d t) (.remote (Dev.tc (yDev d)) (tile ry t) (.dma (semOf sy t))) (.dma (semOf ryS t))
    ((View.wordExact_bits rfl).reshape _ _) (View.wordExact_bits rfl) ⟨⟨rfl, Or.inl rfl⟩, trivial⟩)

/-- Tile `t` of the first stage: wait for it, forward it, add it. -/
def passTile (d : Dev nD) (t : Tile) : Prog (TpuEff nD τ sig (Elt F) Λ₀ .tc) PUnit := do
  Prog.lift (.waitDma2 (semOf ryS t) (srcTile x d t) (tile ry t) ((View.wordExact_bits rfl).reshape _ _) (View.wordExact_bits rfl))
  Prog.lift (.enqueueDma (tile ry t) (.remote (Dev.tc (xDev d)) (tile rx t) (.dma (semOf sx t))) (.dma (semOf rxS t))
    (View.wordExact_bits rfl) (View.wordExact_bits rfl) ⟨⟨rfl, Or.inl rfl⟩, trivial⟩)
  addTile out loc ry t (k0_off4 d (BitVec.ofNat 32 (row t))) (me_inb d t)

/-- Tile `t` of the second stage: wait for it, add it. -/
def takeTile (d : Dev nD) (t : Tile) : Prog (TpuEff nD τ sig (Elt F) Λ₀ .tc) PUnit := do
  Prog.lift (.waitDma2 (semOf rxS t) (tile ry t) (tile rx t) (View.wordExact_bits rfl) (View.wordExact_bits rfl))
  addTile out loc rx t (k0_off6 d (BitVec.ofNat 32 (row t))) (other_inb d t)

/-- The waits for tile `t` to have been sent, in both stages. -/
def doneTile (d : Dev nD) (t : Tile) : Prog (TpuEff nD τ sig (Elt F) Λ₀ .tc) PUnit := do
  Prog.lift (.waitDma2 (semOf sy t) (tile ry t) (srcTile x d t) (View.wordExact_bits rfl) ((View.wordExact_bits rfl).reshape _ _))
  Prog.lift (.waitDma2 (semOf sx t) (tile rx t) (tile ry t) (View.wordExact_bits rfl) (View.wordExact_bits rfl))

/-- The body as loops. -/
def loops : Prog (TpuEff nD τ sig (Elt F) Λ₀ .tc) PUnit := do
  let d : Dev nD ← Prog.lift .deviceId
  Prog.lift (.enqueueDma (srcOwn x d) (.here loc) (.dma sl.sem) ((View.wordExact_bits rfl).reshape _ _) hloc.wordExact ⟨Or.inl rfl, trivial⟩)
  semSignalWord (yDev d) barSems.sem 1#32
  semSignalWord (xDev d) barSems.sem 1#32
  semWaitWord barSems.sem 2#32
  each tiles (sendTile x ry sy ryS d)
  Prog.lift (.waitDma2 sl.sem (srcOwn x d) loc ((View.wordExact_bits rfl).reshape _ _) hloc.wordExact)
  each tiles (passTile x out loc ry rx ryS sx rxS d)
  each tiles (takeTile out loc ry rx rxS d)
  each tiles (doneTile x ry rx sy sx d)

/-- The printed body is its loops. -/
theorem body_eq_loops : cc0_body (F := F) x hx out hout loc hloc ry hry rx hrx sl sy ryS sx rxS = loops x out loc hloc ry rx sl sy ryS sx rxS := by
  chain_rfl

end Cert.KernelIdeal.Sum

end
-- ==== Proof.Contents.lean ====
/- What the buffers hold, and where the tiles lie.

   Device `d` of the two by two mesh is at row half `d / 2` and column block `d % 2`. It keeps the columns of its own block,
   and sends the other columns of its row half to the neighbour of the other column block; what it receives from there it
   adds, and forwards to the neighbour of the other row half. -/
module

public import proofs.«01_k».proof.Proof.Loops
public import Idealize.ShloMosaic.Lib.Pipeline.Launch
public import Idealize.ShloMosaic.Lib.Pipeline.Kit
public import Idealize.ShloMosaic.Lib.Pipeline.Value
public import Idealize.ShloMosaic.Lib.Tactic
public import Idealize.ShloMosaic.Lib.ValueLayout

@[expose] public section

noncomputable section

namespace Cert.KernelIdeal.Sum

open Cert.KernelIdeal Cert.KernelIdeal.Gen
open Idealize.ShloMosaic Idealize.ShloMosaic.TcCoe
open Idealize.SL Idealize.SL.Sem

variable {F : FTy → Type} [FloatOps F]

/-! ## The neighbours -/

theorem yDev_yDev : ∀ d : Dev nD, yDev (yDev d) = d := by decide
theorem xDev_xDev : ∀ d : Dev nD, xDev (xDev d) = d := by decide
theorem yDev_half : ∀ d : Dev nD, (yDev d).val / 2 = d.val / 2 := by decide
theorem yDev_block : ∀ d : Dev nD, (yDev d).val % 2 = 1 - d.val % 2 := by decide
theorem xDev_half : ∀ d : Dev nD, (xDev d).val / 2 = 1 - d.val / 2 := by decide
theorem xDev_block : ∀ d : Dev nD, (xDev d).val % 2 = d.val % 2 := by decide

/-! ## The offsets in closed form -/

theorem off1_eq : ∀ d : Dev nD, k0_off1 d = ![0, 0, 512 * (d.val % 2)] := by decide +kernel
theorem off2_eq : ∀ (d : Dev nD) (t : Tile),
    k0_off2 d (BitVec.ofNat 32 (row t)) = ![0, 1024 * (d.val / 2) + row t, 512 - 512 * (d.val % 2)] := by decide +kernel
theorem off4_eq : ∀ (d : Dev nD) (t : Tile), k0_off4 d (BitVec.ofNat 32 (row t)) = ![1024 * (d.val / 2) + row t, 0] := by decide +kernel
theorem off6_eq : ∀ (d : Dev nD) (t : Tile), k0_off6 d (BitVec.ofNat 32 (row t)) = ![1024 - 1024 * (d.val / 2) + row t, 0] := by
  decide +kernel

/-! ## The tiles cover a half of the rows, each row once -/

/-- The tile that holds row `n` of a half. -/
def tileOf (n : ℕ) : ℕ := if n < 992 then n / 64 else 16

theorem tileOf_lt (n : ℕ) (h : n < 1024) : tileOf n < 17 := by unfold tileOf; split <;> omega

/-- A tile ends inside its half. -/
theorem row_add_rows (t : Tile) : row t + rows t ≤ 1024 := by unfold row rows; have := t.isLt; split <;> split <;> omega

/-- A row of a half lies in a tile exactly when that is its tile. -/
theorem mem_tile (n : ℕ) (h : n < 1024) (t : Tile) : (row t ≤ n ∧ n < row t + rows t) ↔ tileOf n = t.val := by
  unfold row rows tileOf; have := t.isLt; split <;> split <;> split <;> omega

/-! ## The indices -/

/-- The element of the argument that device `d` sends to element `i` of the receive buffer. -/
def sent (d : Dev nD) (i : S1024x512.Idx) : S1x2048x1024.Idx :=
  fun a => match a with
    | ⟨0, _⟩ => ⟨0, Nat.one_pos⟩
    | ⟨1, _⟩ => ⟨1024 * (d.val / 2) + (i 0).val, by
        have h : (i 0).val < 1024 := (i 0).isLt
        have : d.val < 4 := d.isLt
        show 1024 * (d.val / 2) + (i 0).val < 2048
        omega⟩
    | ⟨2, _⟩ => ⟨512 - 512 * (d.val % 2) + (i 1).val, by
        have h : (i 1).val < 512 := (i 1).isLt
        show 512 - 512 * (d.val % 2) + (i 1).val < 1024
        omega⟩

/-- The element of the argument that device `d` keeps as element `i` of its local block. -/
def kept (d : Dev nD) (i : S2048x512.Idx) : S1x2048x1024.Idx :=
  fun a => match a with
    | ⟨0, _⟩ => ⟨0, Nat.one_pos⟩
    | ⟨1, _⟩ => i 0
    | ⟨2, _⟩ => ⟨512 * (d.val % 2) + (i 1).val, by
        have h : (i 1).val < 512 := (i 1).isLt
        show 512 * (d.val % 2) + (i 1).val < 1024
        omega⟩

/-- The element of a receive buffer that belongs to element `i` of the result: its row within its half. -/
def low (i : S2048x512.Idx) : S1024x512.Idx :=
  fun a => match a with
    | ⟨0, _⟩ => ⟨(i 0).val % 1024, Nat.mod_lt _ (by decide)⟩
    | ⟨1, _⟩ => i 1

/-- A tile of the argument, as the source of a copy, is the elements sent to that tile of the receive buffer. -/
theorem src_emb (d : Dev nD) (t : Tile) (j : (TS t).Idx) :
    (srcTile (Memref.whole main_arg0) d t).view.emb j = sent d ((rectRecv t).emb j) := by
  show (Rect.unit (s := S1x2048x1024) (k0_off2 d (BitVec.ofNat 32 (row t))) (TS3 t).size (src_inb d t)).emb
    (Shape.reshapeEquiv (ts_squeezes t).numel_eq j) = _
  funext a
  refine Fin.ext ?_
  rw [Rect.emb_apply]
  refine Eq.trans (congrArg₂ (fun (o : Fin 3 → ℕ) (y : (TS3 t).Idx) => o a + 1 * (y a).val) (off2_eq d t)
    (Shape.reshapeEquiv_cons_one (ts_squeezes t).numel_eq j)) ?_
  match a with
  | ⟨0, _⟩ => rfl
  | ⟨1, _⟩ =>
    show 1024 * (d.val / 2) + row t + 1 * (j 0).val = 1024 * (d.val / 2) + (((rectRecv t).emb j 0 : Fin _) : ℕ)
    rw [Rect.emb_apply]; show _ = 1024 * (d.val / 2) + (row t + 1 * (j 0).val); omega
  | ⟨2, _⟩ =>
    show 512 - 512 * (d.val % 2) + 1 * (j 1).val = 512 - 512 * (d.val % 2) + (((rectRecv t).emb j 1 : Fin _) : ℕ)
    rw [Rect.emb_apply]; show _ = 512 - 512 * (d.val % 2) + (0 + 1 * (j 1).val); omega

/-- The source of the local copy is the elements kept. -/
theorem own_emb (d : Dev nD) (j : S2048x512.Idx) : (srcOwn (Memref.whole main_arg0) d).view.emb j = kept d j := by
  show (Rect.unit (s := S1x2048x1024) (k0_off1 d) S1x2048x512.size (k0_off1_inb d)).emb
    (Shape.reshapeEquiv squeezes_S1x2048x512_S2048x512.numel_eq j) = _
  funext a
  refine Fin.ext ?_
  rw [Rect.emb_apply]
  refine Eq.trans (congrArg₂ (fun (o : Fin 3 → ℕ) (y : S1x2048x512.Idx) => o a + 1 * (y a).val) (off1_eq d)
    (Shape.reshapeEquiv_cons_one squeezes_S1x2048x512_S2048x512.numel_eq j)) ?_
  match a with
  | ⟨0, _⟩ => rfl
  | ⟨1, _⟩ => show 0 + 1 * (j 0).val = (j 0).val; omega
  | ⟨2, _⟩ => show 512 * (d.val % 2) + 1 * (j 1).val = 512 * (d.val % 2) + (j 1).val; omega

/-- Row and column of an element of a tile of the device's own half. -/
theorem me_emb (d : Dev nD) (t : Tile) (j : (TS t).Idx) :
    (((rectMe d t).emb j 0 : Fin _) : ℕ) = 1024 * (d.val / 2) + row t + (j 0).val ∧ (((rectMe d t).emb j 1 : Fin _) : ℕ) = (j 1).val := by
  rw [Rect.emb_apply, Rect.emb_apply]
  show k0_off4 d (BitVec.ofNat 32 (row t)) 0 + 1 * (j 0).val = _ ∧ k0_off4 d (BitVec.ofNat 32 (row t)) 1 + 1 * (j 1).val = _
  rw [off4_eq]
  show 1024 * (d.val / 2) + row t + 1 * (j 0).val = _ ∧ 0 + 1 * (j 1).val = _
  omega

/-- Row and column of an element of a tile of the other half. -/
theorem other_emb (d : Dev nD) (t : Tile) (j : (TS t).Idx) :
    (((rectOther d t).emb j 0 : Fin _) : ℕ) = 1024 - 1024 * (d.val / 2) + row t + (j 0).val
      ∧ (((rectOther d t).emb j 1 : Fin _) : ℕ) = (j 1).val := by
  rw [Rect.emb_apply, Rect.emb_apply]
  show k0_off6 d (BitVec.ofNat 32 (row t)) 0 + 1 * (j 0).val = _ ∧ k0_off6 d (BitVec.ofNat 32 (row t)) 1 + 1 * (j 1).val = _
  rw [off6_eq]
  show 1024 - 1024 * (d.val / 2) + row t + 1 * (j 0).val = _ ∧ 0 + 1 * (j 1).val = _
  omega

/-- Row and column of an element of a tile of a receive buffer. -/
theorem recv_emb (t : Tile) (j : (TS t).Idx) :
    (((rectRecv t).emb j 0 : Fin _) : ℕ) = row t + (j 0).val ∧ (((rectRecv t).emb j 1 : Fin _) : ℕ) = (j 1).val := by
  rw [Rect.emb_apply, Rect.emb_apply]
  show row t + 1 * (j 0).val = _ ∧ 0 + 1 * (j 1).val = _
  omega

/-- Two elements of a receive buffer with the same row and column are the same. -/
theorem recv_ext {i j : S1024x512.Idx} (h0 : (i 0).val = (j 0).val) (h1 : (i 1).val = (j 1).val) : i = j := by
  funext a; refine Fin.ext ?_
  match a with
  | ⟨0, _⟩ => exact h0
  | ⟨1, _⟩ => exact h1

theorem low_me (d : Dev nD) (t : Tile) (j : (TS t).Idx) : low ((rectMe d t).emb j) = (rectRecv t).emb j := by
  have hm := me_emb d t j
  have hr := recv_emb t j
  have hj : (j 0).val < rows t := (j 0).isLt
  have hrow := row_add_rows t
  refine recv_ext ?_ ?_
  · show (((rectMe d t).emb j 0 : Fin _) : ℕ) % 1024 = _
    rw [hm.1, hr.1]; omega
  · show (((rectMe d t).emb j 1 : Fin _) : ℕ) = _
    rw [hm.2, hr.2]

theorem low_other (d : Dev nD) (t : Tile) (j : (TS t).Idx) : low ((rectOther d t).emb j) = (rectRecv t).emb j := by
  have hm := other_emb d t j
  have hr := recv_emb t j
  have hj : (j 0).val < rows t := (j 0).isLt
  have hrow := row_add_rows t
  have hd : d.val < 4 := d.isLt
  refine recv_ext ?_ ?_
  · show (((rectOther d t).emb j 0 : Fin _) : ℕ) % 1024 = _
    rw [hm.1, hr.1]
    rcases (show d.val / 2 = 0 ∨ d.val / 2 = 1 by omega) with h | h <;> rw [h] <;> omega
  · show (((rectOther d t).emb j 1 : Fin _) : ℕ) = _
    rw [hm.2, hr.2]

theorem half_me (d : Dev nD) (t : Tile) (j : (TS t).Idx) : (((rectMe d t).emb j 0 : Fin _) : ℕ) / 1024 = d.val / 2 := by
  have hm := me_emb d t j
  have hj : (j 0).val < rows t := (j 0).isLt
  have hrow := row_add_rows t
  rw [hm.1]; omega

theorem half_other (d : Dev nD) (t : Tile) (j : (TS t).Idx) : (((rectOther d t).emb j 0 : Fin _) : ℕ) / 1024 = 1 - d.val / 2 := by
  have hm := other_emb d t j
  have hj : (j 0).val < rows t := (j 0).isLt
  have hrow := row_add_rows t
  have hd : d.val < 4 := d.isLt
  rw [hm.1]
  rcases (show d.val / 2 = 0 ∨ d.val / 2 = 1 by omega) with h | h <;> rw [h] <;> omega

/-! ## The contents -/

section Values
variable (x : Dev nD → S1x2048x1024.Idx → Elt F .f32)

/-- The local block of device `d`: its own columns of its argument. -/
def keptAt (d : Dev nD) : S2048x512.Idx → Elt F .f32 := fun i => x d (kept d i)

/-- What the first receive buffer of device `d` holds once everything has landed: what the neighbour of the other column
    block sent. -/
def recvY (d : Dev nD) : S1024x512.Idx → Elt F .f32 := fun i => x (yDev d) (sent (yDev d) i)

/-- What the second receive buffer of device `d` holds: what the neighbour of the other row half received. -/
def recvX (d : Dev nD) : S1024x512.Idx → Elt F .f32 := recvY x (xDev d)

/-- The result of device `d`: its own columns plus what came, directly for its own row half, forwarded for the other. -/
def outAt (d : Dev nD) : S2048x512.Idx → Elt F .f32 := fun i =>
  FloatOps.addf (φ := .f32) (keptAt x d i) (if (i 0).val / 1024 = d.val / 2 then recvY x d (low i) else recvX x d (low i))

/-- The sum of a tile of the own half is the result there. -/
theorem sum_me (d : Dev nD) (t : Tile) (j : (TS t).Idx) :
    FloatOps.addf (φ := .f32) (keptAt x d ((rectMe d t).emb j)) (recvY x d ((rectRecv t).emb j)) = outAt x d ((rectMe d t).emb j) := by
  unfold outAt; rw [if_pos (half_me d t j), low_me]

/-- The sum of a tile of the other half is the result there. -/
theorem sum_other (d : Dev nD) (t : Tile) (j : (TS t).Idx) :
    FloatOps.addf (φ := .f32) (keptAt x d ((rectOther d t).emb j)) (recvX x d ((rectRecv t).emb j)) = outAt x d ((rectOther d t).emb j) := by
  unfold outAt
  rw [if_neg (by rw [half_other]; have := d.isLt; omega), low_other]

end Values

/-! ## The sets of elements -/

/-- The elements of tile `t` of a receive buffer. -/
def recvSet (t : Tile) : Finset S1024x512.Idx := (rectRecv t).set

/-- The elements of tile `t` of the own and of the other half of a full-height buffer. -/
def outSet (d : Dev nD) : Tile ⊕ Tile → Finset S2048x512.Idx
  | .inl t => (rectMe d t).set
  | .inr t => (rectOther d t).set

theorem emb_mem_recvSet (t : Tile) (j : (TS t).Idx) : (rectRecv t).emb j ∈ recvSet t := by
  unfold recvSet; rw [← Rect.map_emb_univ]; exact Finset.mem_map_of_mem _ (Finset.mem_univ j)

theorem mem_recvSet (t : Tile) (i : S1024x512.Idx) : i ∈ recvSet t ↔ tileOf (i 0).val = t.val := by
  have h0 : (i 0).val < 1024 := (i 0).isLt
  have h1 : (i 1).val < 512 := (i 1).isLt
  rw [← mem_tile _ h0, recvSet, Rect.mem_set_unit]
  constructor
  · intro h; exact h 0
  · intro h a
    match a with
    | ⟨0, _⟩ => exact h
    | ⟨1, _⟩ => exact ⟨Nat.zero_le _, by show (i 1).val < 0 + 512; omega⟩

theorem mem_rectMe (d : Dev nD) (t : Tile) (i : S2048x512.Idx) :
    i ∈ (rectMe d t).set ↔ (i 0).val / 1024 = d.val / 2 ∧ tileOf ((i 0).val % 1024) = t.val := by
  have h0 : (i 0).val < 2048 := (i 0).isLt
  have h1 : (i 1).val < 512 := (i 1).isLt
  have hd : d.val < 4 := d.isLt
  have hrow := row_add_rows t
  have hrows : 0 < rows t := by unfold rows; split <;> omega
  rw [← mem_tile _ (Nat.mod_lt _ (by decide)), Rect.mem_set_unit, off4_eq]
  constructor
  · intro h
    have h' : 1024 * (d.val / 2) + row t ≤ (i 0).val ∧ (i 0).val < 1024 * (d.val / 2) + row t + rows t := h 0
    omega
  · intro h a
    match a with
    | ⟨0, _⟩ =>
      show 1024 * (d.val / 2) + row t ≤ (i 0).val ∧ (i 0).val < 1024 * (d.val / 2) + row t + rows t
      omega
    | ⟨1, _⟩ => exact ⟨Nat.zero_le _, by show (i 1).val < 0 + 512; omega⟩

theorem mem_rectOther (d : Dev nD) (t : Tile) (i : S2048x512.Idx) :
    i ∈ (rectOther d t).set ↔ (i 0).val / 1024 ≠ d.val / 2 ∧ tileOf ((i 0).val % 1024) = t.val := by
  have h0 : (i 0).val < 2048 := (i 0).isLt
  have h1 : (i 1).val < 512 := (i 1).isLt
  have hd : d.val < 4 := d.isLt
  have hrow := row_add_rows t
  rw [← mem_tile _ (Nat.mod_lt _ (by decide)), Rect.mem_set_unit, off6_eq]
  constructor
  · intro h
    have h' : 1024 - 1024 * (d.val / 2) + row t ≤ (i 0).val ∧ (i 0).val < 1024 - 1024 * (d.val / 2) + row t + rows t := h 0
    rcases (show d.val / 2 = 0 ∨ d.val / 2 = 1 by omega) with e | e <;> rw [e] at h' ⊢ <;> omega
  · intro h a
    match a with
    | ⟨0, _⟩ =>
      show 1024 - 1024 * (d.val / 2) + row t ≤ (i 0).val ∧ (i 0).val < 1024 - 1024 * (d.val / 2) + row t + rows t
      rcases (show d.val / 2 = 0 ∨ d.val / 2 = 1 by omega) with e | e <;> rw [e] at h ⊢ <;> omega
    | ⟨1, _⟩ => exact ⟨Nat.zero_le _, by show (i 1).val < 0 + 512; omega⟩

/-- The tiles of a receive buffer do not overlap. -/
theorem recvSet_disjoint (t t' : Tile) (h : t ≠ t') : Disjoint (recvSet t) (recvSet t') :=
  Finset.disjoint_left.mpr fun i hi hi' => h (Fin.ext (((mem_recvSet t i).mp hi).symm.trans ((mem_recvSet t' i).mp hi')))

/-- The tiles of a receive buffer cover it. -/
theorem recvSet_cover : (Finset.univ : Finset Tile).biUnion recvSet = Finset.univ := by
  refine Finset.eq_univ_of_forall fun i => Finset.mem_biUnion.mpr ⟨⟨tileOf (i 0).val, tileOf_lt _ (i 0).isLt⟩, Finset.mem_univ _, ?_⟩
  exact (mem_recvSet _ i).mpr rfl

/-- The tiles of the two halves do not overlap. -/
theorem outSet_disjoint (d : Dev nD) : ∀ k k' : Tile ⊕ Tile, k ≠ k' → Disjoint (outSet d k) (outSet d k') := by
  rintro (t | t) (t' | t') h <;> refine Finset.disjoint_left.mpr fun i hi hi' => ?_
  · exact h (congrArg Sum.inl (Fin.ext (((mem_rectMe d t i).mp hi).2.symm.trans ((mem_rectMe d t' i).mp hi').2)))
  · exact ((mem_rectOther d t' i).mp hi').1 ((mem_rectMe d t i).mp hi).1
  · exact ((mem_rectOther d t i).mp hi).1 ((mem_rectMe d t' i).mp hi').1
  · exact h (congrArg Sum.inr (Fin.ext (((mem_rectOther d t i).mp hi).2.symm.trans ((mem_rectOther d t' i).mp hi').2)))

/-- The tiles of the two halves cover a full-height buffer. -/
theorem outSet_cover (d : Dev nD) : (Finset.univ : Finset (Tile ⊕ Tile)).biUnion (outSet d) = Finset.univ := by
  refine Finset.eq_univ_of_forall fun i => Finset.mem_biUnion.mpr ?_
  by_cases h : (i 0).val / 1024 = d.val / 2
  · exact ⟨.inl ⟨tileOf ((i 0).val % 1024), tileOf_lt _ (Nat.mod_lt _ (by decide))⟩, Finset.mem_univ _, (mem_rectMe _ _ i).mpr ⟨h, rfl⟩⟩
  · exact ⟨.inr ⟨tileOf ((i 0).val % 1024), tileOf_lt _ (Nat.mod_lt _ (by decide))⟩, Finset.mem_univ _, (mem_rectOther _ _ i).mpr ⟨h, rfl⟩⟩

/-- The elements of the argument that device `d` sends as tile `t`, and those it keeps. -/
def sentSet (d : Dev nD) (t : Tile) : Finset S1x2048x1024.Idx := (srcTile (Memref.whole main_arg0) d t).view.set
def keptSet (d : Dev nD) : Finset S1x2048x1024.Idx := (srcOwn (Memref.whole main_arg0) d).view.set

/-- Tiles sent do not overlap. -/
theorem sentSet_disjoint (d : Dev nD) (t t' : Tile) (h : t ≠ t') : Disjoint (sentSet d t) (sentSet d t') := by
  refine Finset.disjoint_left.mpr fun i hi hi' => ?_
  obtain ⟨j, rfl⟩ := View.exists_emb_of_mem_set _ hi
  obtain ⟨j', e⟩ := View.exists_emb_of_mem_set _ hi'
  rw [src_emb, src_emb] at e
  have e1 : 1024 * (d.val / 2) + (((rectRecv t').emb j' 0 : Fin _) : ℕ) = 1024 * (d.val / 2) + (((rectRecv t).emb j 0 : Fin _) : ℕ) :=
    congrArg (fun i : S1x2048x1024.Idx => (i 1).val) e
  have m := (mem_recvSet t _).mp (emb_mem_recvSet t j)
  have m' := (mem_recvSet t' _).mp (emb_mem_recvSet t' j')
  refine h (Fin.ext (m.symm.trans (Eq.trans ?_ m')))
  congr 1; omega

/-- Nothing that is kept is sent. -/
theorem keptSet_disjoint (d : Dev nD) (t : Tile) : Disjoint (keptSet d) (sentSet d t) := by
  refine Finset.disjoint_left.mpr fun i hi hi' => ?_
  obtain ⟨j, rfl⟩ := View.exists_emb_of_mem_set _ hi
  obtain ⟨j', e⟩ := View.exists_emb_of_mem_set _ hi'
  rw [src_emb, own_emb] at e
  have e2 : 512 - 512 * (d.val % 2) + (((rectRecv t).emb j' 1 : Fin _) : ℕ) = 512 * (d.val % 2) + (j 1).val :=
    congrArg (fun i : S1x2048x1024.Idx => (i 2).val) e
  have h : (((rectRecv t).emb j' 1 : Fin _) : ℕ) < 512 := ((rectRecv t).emb j' 1).isLt
  have h' : (j 1).val < 512 := (j 1).isLt
  rcases (show d.val % 2 = 0 ∨ d.val % 2 = 1 by omega) with e | e <;> rw [e] at e2 <;> omega

end Cert.KernelIdeal.Sum

end
-- ==== Proof.Protocol.lean ====
/- The protocol of the kernel: what each semaphore's credits hand over.

   Every semaphore of a device is one cell of one round. The barrier has two payers, each neighbour handing over its receive
   buffer for the copies into it; the local copy and each of the sixty-eight copies to a neighbour have one. -/
module

public import proofs.«01_k».proof.Proof.Contents

@[expose] public section

noncomputable section

namespace Cert.KernelIdeal.Sum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells of a device -/

/-- The four arrays of semaphores: of the sends of the first stage, of its receives, of the second stage's sends, of its
    receives. -/
abbrev laneSems : Fin 4 → DmaSems sig S17 := fun
  | 0 => cc0_scratch4
  | 1 => cc0_scratch5
  | 2 => cc0_scratch6
  | 3 => cc0_scratch7

/-- The scoped cells: the local copy's, then one per array and tile. -/
abbrev OwnKey : Type := Unit ⊕ (Fin 4 × Tile)

/-- All cells: the barrier's, then the scoped ones. -/
abbrev Key : Type := Unit ⊕ OwnKey

abbrev kBar : Key := .inl ()
abbrev kLoc : Key := .inr (.inl ())
abbrev kLane (i : Fin 4) (t : Tile) : Key := .inr (.inr (i, t))

/-- The semaphore of a scoped cell. -/
abbrev osem : OwnKey → SemLoc sig
  | .inl _ => .dma cc0_scratch3.sem
  | .inr (i, t) => .dma (semOf (laneSems i) t)

/-- The semaphore of a cell. -/
abbrev csem : Key → SemLoc sig
  | .inl _ => .reg barSems.sem
  | .inr k => osem k

/-- A device's cell. -/
abbrev kcell (c : Dev nD) (k : Key) : GSem nD τ sig := ((c : Thread nD τ), csem k)

/-- The cell of a semaphore, if it is one of the kernel's. -/
def keyOf : SemLoc sig → Option Key
  | .reg _ => some kBar
  | .dma q =>
    if q.val = 0 then none
    else if q.val = 1 then some kLoc
    else if h : (q.val - 2) / 17 < 4 then some (kLane ⟨(q.val - 2) / 17, h⟩ ⟨(q.val - 2) % 17, Nat.mod_lt _ (by decide)⟩)
    else none

theorem keyOf_csem : ∀ k : Key, keyOf (csem k) = some k := by decide +kernel

theorem csem_injective : Function.Injective csem := fun k k' h =>
  Option.some.inj ((keyOf_csem k).symm.trans ((congrArg keyOf h).trans (keyOf_csem k')))

/-! ## What is held -/

section Held
variable (x : Dev nD → S1x2048x1024.Idx → Elt F .f32)

abbrev argM : Memref sig .tc .hbm S1x2048x1024 .f32 := Memref.whole main_arg0
abbrev outM : Memref sig .tc .vmem S2048x512 .f32 := Memref.whole cc0_stg0_0
abbrev locM : Memref sig .tc .vmem S2048x512 .f32 := Memref.whole cc0_scratch0
abbrev ryM : Memref sig .tc .vmem S1024x512 .f32 := Memref.whole cc0_scratch1
abbrev rxM : Memref sig .tc .vmem S1024x512 .f32 := Memref.whole cc0_scratch2

/-- The block of the argument that device `c` sends as tile `t`. -/
def srcPts (c : Dev nD) (t : Tile) : sProp 𝕄 :=
  (srcTile argM c t).view.loc (c : Thread nD τ) ↦[(srcTile argM c t).view.set]{fullShare} x c

/-- The block of the argument that device `c` keeps. -/
def ownPts (c : Dev nD) : sProp 𝕄 :=
  (srcOwn argM c).view.loc (c : Thread nD τ) ↦[(srcOwn argM c).view.set]{fullShare} x c

/-- The local block. -/
def locPts (c : Dev nD) (f : S2048x512.Idx → Elt F .f32) : sProp 𝕄 :=
  locM.view.loc (c : Thread nD τ) ↦[locM.view.set]{fullShare} f

/-- Tile `t` of the first receive buffer, at the share `q`. -/
def yPts (c : Dev nD) (q : PosShare TreeShare) (t : Tile) (f : S1024x512.Idx → Elt F .f32) : sProp 𝕄 :=
  (tile ryM t).view.loc (c : Thread nD τ) ↦[(tile ryM t).view.set]{q} f

/-- Tile `t` of the second receive buffer. -/
def xPts (c : Dev nD) (t : Tile) (f : S1024x512.Idx → Elt F .f32) : sProp 𝕄 :=
  (tile rxM t).view.loc (c : Thread nD τ) ↦[(tile rxM t).view.set]{fullShare} f

/-- All tiles of the first receive buffer, of the second. -/
def yAll (c : Dev nD) : sProp 𝕄 := iprop(∃ f, bigSep Finset.univ fun t : Tile => yPts c fullShare t f)
def xAll (c : Dev nD) : sProp 𝕄 := iprop(∃ f, bigSep Finset.univ fun t : Tile => xPts c t f)

instance srcPts_storable (c : Dev nD) (t : Tile) : BI.Storable (upEmb : UEmb _ 𝕄) (srcPts x c t) := by unfold srcPts; infer_instance
instance ownPts_storable (c : Dev nD) : BI.Storable (upEmb : UEmb _ 𝕄) (ownPts x c) := by unfold ownPts; infer_instance
instance locPts_storable (c : Dev nD) (f) : BI.Storable (upEmb : UEmb _ 𝕄) (locPts (F := F) c f) := by unfold locPts; infer_instance
instance yPts_storable (c : Dev nD) (q) (t : Tile) (f) : BI.Storable (upEmb : UEmb _ 𝕄) (yPts (F := F) c q t f) := by
  unfold yPts; infer_instance
instance xPts_storable (c : Dev nD) (t : Tile) (f) : BI.Storable (upEmb : UEmb _ 𝕄) (xPts (F := F) c t f) := by
  unfold xPts; infer_instance
instance yAll_storable (c : Dev nD) : BI.Storable (upEmb : UEmb _ 𝕄) (yAll (F := F) c) := by unfold yAll; infer_instance
instance xAll_storable (c : Dev nD) : BI.Storable (upEmb : UEmb _ 𝕄) (xAll (F := F) c) := by unfold xAll; infer_instance

/-! ## The schedule -/

/-- What the credits of a tile's copy come to. -/
abbrev tileAmt (t : Tile) : ℕ := (tile ryM t).view.dmaCredit
/-- What the credits of the local copy come to. -/
abbrev locAmt : ℕ := locM.view.dmaCredit

theorem tileAmt_pos (t : Tile) : 0 < tileAmt t := View.dmaCredit_pos _ (ts_pos t)
theorem locAmt_pos : 0 < locAmt := View.dmaCredit_pos _ (by decide)

/-- One payer's credits at a cell. -/
def amt : Key → ℕ
  | .inl _ => 1
  | .inr (.inl _) => locAmt
  | .inr (.inr (_, t)) => tileAmt t

theorem amt_pos : ∀ k : Key, 0 < amt k
  | .inl _ => Nat.one_pos
  | .inr (.inl _) => locAmt_pos
  | .inr (.inr (_, t)) => tileAmt_pos t

/-- What the credits at a cell of device `c` hand over. The barrier's: each neighbour's receive buffer. The local copy's: the
    block kept, copied, and its source. A send's: its source, of which a tile that is forwarded is lent by half. A
    receive's: the tile received. -/
def pay (c : Dev nD) : Key → Bool → sProp 𝕄
  | .inl _, false => yAll (yDev c)
  | .inl _, true => xAll (xDev c)
  | .inr (.inl _), _ => iprop(locPts c (keptAt x c) ∗ ownPts x c)
  | .inr (.inr (0, t)), _ => srcPts x c t
  | .inr (.inr (1, t)), _ => yPts c fullShare t (recvY x c)
  | .inr (.inr (2, t)), _ => yPts c fullShare.left t (recvY x c)
  | .inr (.inr (3, t)), _ => xPts c t (recvX x c)

instance pay_storable (c : Dev nD) (k : Key) (d : Bool) : BI.Storable (upEmb : UEmb _ 𝕄) (pay x c k d) := by
  rcases k with _ | _ | ⟨i, t⟩
  · cases d <;> (show BI.Storable upEmb _; unfold pay; infer_instance)
  · show BI.Storable upEmb iprop(_ ∗ _); infer_instance
  · match i with
    | 0 => show BI.Storable upEmb (srcPts x c t); infer_instance
    | 1 => show BI.Storable upEmb (yPts c fullShare t _); infer_instance
    | 2 => show BI.Storable upEmb (yPts c fullShare.left t _); infer_instance
    | 3 => show BI.Storable upEmb (xPts c t _); infer_instance

/-- The payers of a cell. -/
def payers : Key → Finset Bool
  | .inl _ => Finset.univ
  | .inr _ => {false}

/-- The schedule: every cell has one round. -/
def sched : Rounds.Schedule (GSem nD τ sig) Bool 𝕄 where
  duties g r := if r = 0 ∧ g.1.2 = .tc then (keyOf g.2).elim ∅ payers else ∅
  unitless _ := False
  amount g _ _ := (keyOf g.2).elim 1 amt
  payload g _ d := (keyOf g.2).elim iprop(emp) fun k => pay x g.1.1 k d
  amount_pos g _ _ _ := by cases keyOf g.2 with
    | none => exact Nat.one_pos
    | some k => exact amt_pos k

instance sched_payload_storable (g : GSem nD τ sig) (r : ℕ) (d : Bool) : BI.Storable (upEmb : UEmb _ 𝕄) ((sched x).payload g r d) := by
  show BI.Storable upEmb ((keyOf g.2).elim iprop(emp) fun k => pay x g.1.1 k d)
  cases keyOf g.2 with
  | none => show BI.Storable upEmb iprop(emp); infer_instance
  | some k => show BI.Storable upEmb (pay x g.1.1 k d); infer_instance

theorem duties_key (c : Dev nD) (k : Key) : (sched x).duties (kcell c k) 0 = payers k := by
  show (if 0 = 0 ∧ (kcell c k).1.2 = .tc then (keyOf (csem k)).elim ∅ payers else ∅) = _
  rw [if_pos ⟨rfl, rfl⟩, keyOf_csem]; rfl

theorem duties_later (g : GSem nD τ sig) : ∀ r, 1 ≤ r → (sched x).duties g r = ∅ :=
  fun r hr => if_neg fun h => by omega

theorem false_mem (c : Dev nD) (k : Key) : false ∈ (sched x).duties (kcell c k) 0 := by
  rw [duties_key]
  rcases k with _ | k
  · exact Finset.mem_univ _
  · exact Finset.mem_singleton_self _

theorem true_mem (c : Dev nD) : true ∈ (sched x).duties (kcell c kBar) 0 := by rw [duties_key]; exact Finset.mem_univ _

theorem amount_key (c : Dev nD) (k : Key) (d : Bool) : (sched x).amount (kcell c k) 0 d = amt k := by
  show (keyOf (csem k)).elim 1 amt = _; rw [keyOf_csem]; rfl

theorem payload_key (c : Dev nD) (k : Key) (d : Bool) : (sched x).payload (kcell c k) 0 d = pay x c k d := by
  show (keyOf (csem k)).elim iprop(emp) (fun k => pay x c k d) = _; rw [keyOf_csem]; rfl

theorem expect_bar (c : Dev nD) : (sched x).expect (kcell c kBar) 0 = 2 := by
  unfold Schedule.expect Schedule.amountOf
  rw [duties_key, Finset.sum_congr rfl fun d _ => amount_key x c kBar d, Finset.sum_const]; rfl

theorem expect_own (c : Dev nD) (k : OwnKey) : (sched x).expect (kcell c (.inr k)) 0 = amt (.inr k) := by
  unfold Schedule.expect Schedule.amountOf; rw [duties_key]
  show ∑ d ∈ {false}, _ = _
  rw [Finset.sum_singleton, amount_key]

/-- The round of the barrier hands over both neighbours' buffers. -/
theorem rest_bar (c : Dev nD) :
    bigSep ((sched x).duties (kcell c kBar) 0 \ ∅) (fun d => (sched x).payload (kcell c kBar) 0 d) = iprop(yAll (yDev c) ∗ xAll (xDev c)) := by
  rw [Finset.sdiff_empty, duties_key]
  show bigSep Finset.univ _ = _
  rw [bigSep_univ_eq_bigSepL [false, true] (by decide) (by decide), bigSepL_cons_cons, bigSepL_singleton, payload_key, payload_key]
  rfl

/-- The round of another cell hands over its one payload. -/
theorem rest_own (c : Dev nD) (k : OwnKey) :
    bigSep ((sched x).duties (kcell c (.inr k)) 0 \ ∅) (fun d => (sched x).payload (kcell c (.inr k)) 0 d) = pay x c (.inr k) false := by
  rw [Finset.sdiff_empty, duties_key]
  show bigSep {false} _ = _
  rw [bigSep_singleton, payload_key]

end Held

/-! ## Levels -/

/-- The level of a cell: the barrier's 1, then the receives' of the two stages; every other cell's 0. -/
def level : Key → ℕ
  | .inl _ => 1
  | .inr (.inr (1, _)) => 2
  | .inr (.inr (3, _)) => 3
  | _ => 0

def L (g : GSem nD τ sig) : Finset Unit := if g.1.2 = .tc then {()} else ∅
def lv (g : GSem nD τ sig) (_ : Unit) : ℕ := (keyOf g.2).elim 0 level

theorem L_of_ne (g : GSem nD τ sig) (h : g.1.2 ≠ .tc) : L g = ∅ := if_neg h
theorem lv_key (c : Dev nD) (k : Key) : lv (kcell c k) () = level k := by
  show (keyOf (csem k)).elim 0 level = _; rw [keyOf_csem]; rfl

/-- Everything owed is owed to cells above level `b`. -/
def Above (b : ℕ) (O : CellTallies nD τ sig Unit) : Prop := ∀ g u, 0 < O g u → g.1.2 = .tc ∧ b < lv g u

theorem Above.zero (b : ℕ) : Above b 0 := fun _ _ h => absurd h (Nat.lt_irrefl 0)

theorem Above.add {b : ℕ} {O O' : CellTallies nD τ sig Unit} (h : Above b O) (h' : Above b O') : Above b (O + O') := fun g u hg => by
  rw [Pi.add_apply, Finsupp.add_apply] at hg
  rcases Nat.eq_zero_or_pos (O g u) with e | e
  · exact h' g u (by omega)
  · exact h g u e

theorem Above.tally {b : ℕ} (c : Dev nD) (k : Key) (n : ℕ) (h : b < level k) : Above b (tallyAt (kcell c k) () n) := fun g u hg => by
  rw [tallyAt_apply] at hg
  by_cases e : g = kcell c k ∧ u = ()
  · rw [e.1]; exact ⟨rfl, by rw [lv_key]; exact h⟩
  · rw [if_neg e] at hg; exact absurd hg (Nat.lt_irrefl 0)

theorem Above.list {b : ℕ} {α : Type} (l : List α) (f : α → CellTallies nD τ sig Unit) (h : ∀ a, Above b (f a)) : Above b (l.map f).sum := by
  induction l with
  | nil => exact Above.zero b
  | cons a l ih => rw [List.map_cons, List.sum_cons]; exact (h a).add ih

/-- A device may wait on a semaphore while everything it owes is above its level. -/
theorem mayWait (c : Dev nD) (sm : SemLoc sig) (O : CellTallies nD τ sig Unit) (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp]; exact Finset.mem_singleton_self _)
    (fun g u hg => by unfold L; rw [if_pos (h g u hg).1]; exact Finset.mem_singleton_self _)
    (fun p hp => by rw [Finset.mem_singleton.mp hp])
    (fun g u hg => (h g u hg).2)

/-! ## What is owed -/

/-- What device `c` owes for the tiles of a list that it has yet to send, in the first stage and in the second. -/
def dueY (c : Dev nD) (ts : List Tile) : CellTallies nD τ sig Unit :=
  (ts.map fun t => tallyAt (kcell (yDev c) (kLane 1 t)) () (tileAmt t)).sum
def dueX (c : Dev nD) (ts : List Tile) : CellTallies nD τ sig Unit :=
  (ts.map fun t => tallyAt (kcell (xDev c) (kLane 3 t)) () (tileAmt t)).sum

theorem dueY_cons (c : Dev nD) (t : Tile) (ts : List Tile) :
    dueY c (t :: ts) = dueY c ts + tallyAt (kcell (yDev c) (kLane 1 t)) () (tileAmt t) := by
  unfold dueY; rw [List.map_cons, List.sum_cons, add_comm]
theorem dueX_cons (c : Dev nD) (t : Tile) (ts : List Tile) :
    dueX c (t :: ts) = dueX c ts + tallyAt (kcell (xDev c) (kLane 3 t)) () (tileAmt t) := by
  unfold dueX; rw [List.map_cons, List.sum_cons, add_comm]

theorem above_dueY (c : Dev nD) (ts : List Tile) : Above 1 (dueY c ts) := Above.list _ _ fun t => Above.tally _ _ _ (by show 1 < 2; decide)
theorem above_dueX (c : Dev nD) (ts : List Tile) : Above 2 (dueX c ts) := Above.list _ _ fun t => Above.tally _ _ _ (by show 2 < 3; decide)

theorem Above.mono {b b' : ℕ} {O : CellTallies nD τ sig Unit} (h : Above b' O) (hb : b ≤ b') : Above b O :=
  fun g u hg => ⟨(h g u hg).1, lt_of_le_of_lt hb (h g u hg).2⟩

/-- What device `c` owes at the start: its tiles, and a unit to each neighbour's barrier. -/
def owed₂ (c : Dev nD) : CellTallies nD τ sig Unit := dueX c tiles + dueY c tiles
def owed₁ (c : Dev nD) : CellTallies nD τ sig Unit := owed₂ c + tallyAt (kcell (xDev c) kBar) () 1
def owed₀ (c : Dev nD) : CellTallies nD τ sig Unit := owed₁ c + tallyAt (kcell (yDev c) kBar) () 1

theorem above_owed₂ (c : Dev nD) : Above 1 (owed₂ c) := ((above_dueX c _).mono (by decide)).add (above_dueY c _)
theorem above_owed₀ (c : Dev nD) : Above 0 (owed₀ c) :=
  (((above_owed₂ c).mono (by decide)).add (Above.tally _ _ _ Nat.one_pos)).add (Above.tally _ _ _ Nat.one_pos)

/-! ## What every device knows, and what each starts from -/

section Ghost
variable (x : Dev nD → S1x2048x1024.Idx → Elt F .f32)

/-- Every cell's invariant, under the names `K`, and that every cell is at its round. -/
def records (K : Dev nD × Key → ℕ) : sProp 𝕄 :=
  iprop((bigSep Finset.univ fun ck : Dev nD × Key => cellInv ER (sched x) (K ck) (kcell ck.1 ck.2))
    ∗ bigSep Finset.univ fun ck : Dev nD × Key => reached ER (kcell ck.1 ck.2) 0)

instance records_persistent (K : Dev nD × Key → ℕ) : BI.Persistent (records x K) := by unfold records; infer_instance

theorem inv_at (K : Dev nD × Key → ℕ) (c : Dev nD) (k : Key) : records x K ⊢ cellInv ER (sched x) (K (c, k)) (kcell c k) := by
  unfold records
  exact sep_elim_left.trans (bigSep_elim (Φ := fun ck : Dev nD × Key => cellInv ER (sched x) (K ck) (kcell ck.1 ck.2)) (Finset.mem_univ (c, k)))

theorem reached_at (K : Dev nD × Key → ℕ) (c : Dev nD) (k : Key) : records x K ⊢ reached ER (kcell c k) 0 := by
  unfold records
  exact sep_elim_right.trans (bigSep_elim (Φ := fun ck : Dev nD × Key => reached ER (kcell ck.1 ck.2) 0) (Finset.mem_univ (c, k)))

/-- The device whose cell `k` device `c` pays. -/
def peer : Key → Dev nD → Dev nD
  | .inl _ => yDev
  | .inr (.inr (1, _)) => yDev
  | .inr (.inr (3, _)) => xDev
  | _ => id

/-- What is handed out at launch of the credits a cell will get: those other devices pay. -/
def launchAmt : Key → ℕ
  | .inl _ => 2
  | .inr (.inr (1, t)) => tileAmt t
  | .inr (.inr (3, t)) => tileAmt t
  | _ => 0

/-- A device's positions, tokens of the payments it makes, and credits, cell by cell. -/
def seat (c : Dev nD) (k : Key) : sProp 𝕄 :=
  iprop(atPos ER (kcell c k) 0 ∅ 0 ∗ dutyTok ER (kcell (peer k c) k) 0 false ∗ cred (tallyAt (kcell c k) () (launchAmt k)))

/-- What device `c`'s body starts from. -/
def start (K : Dev nD × Key → ℕ) (c : Dev nD) : sProp 𝕄 :=
  iprop(records x K ∗ levAts L lv ∗ (bigSep Finset.univ fun k : Key => seat c k) ∗ dutyTok ER (kcell (xDev c) kBar) 0 true)

end Ghost

end Cert.KernelIdeal.Sum

end
-- ==== Proof.Steps.lean ====
/- The steps of the body: a send of each stage, the local copy, a wait, the sum of a tile, and a loop over the tiles from its
   one step. -/
module

public import proofs.«01_k».proof.Proof.Protocol

@[expose] public section

noncomputable section

namespace Cert.KernelIdeal.Sum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The program `p` runs on device `c` to a state where `Q` holds of its result. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`. -/
def owing (c : Dev nD) (O : CellTallies nD τ sig Unit) : sProp 𝕄 := iprop(∃ W, owes (c : Thread nD τ) O W)

/-! ## A loop from its step -/

/-- If each step takes `P` of the tiles still to do, and `Φ` of its own tile, to `P` of the tiles after it and `Ψ` of its own,
    then the loop takes all of `Φ` to all of `Ψ`. -/
theorem runs_each (c : Dev nD) (p : Tile → Prog (TpuEff nD τ sig (Elt F) Λ₀ .tc) PUnit) (P : List Tile → sProp 𝕄) (Φ Ψ : Tile → sProp 𝕄)
    (h : ∀ t ts (k : PUnit → Prog (TpuEff nD τ sig (Elt F) Λ₀ .tc) PUnit) (Q : PUnit → sProp 𝕄),
      iprop(P (t :: ts) ∗ Φ t) ⊢ iprop((iprop(P ts ∗ Ψ t) -∗ runs c (k ⟨⟩) Q) -∗ runs c (p t >>= k) Q))
    (k : PUnit → Prog (TpuEff nD τ sig (Elt F) Λ₀ .tc) PUnit) (Q : PUnit → sProp 𝕄) :
    ∀ ts : List Tile, ts.Nodup →
      iprop(P ts ∗ bigSep ts.toFinset Φ) ⊢ iprop((iprop(P [] ∗ bigSep ts.toFinset Ψ) -∗ runs c (k ⟨⟩) Q) -∗ runs c (each ts p >>= k) Q)
  | [], _ => by
    unfold each
    simp only [List.toFinset_nil, bigSep_empty, Prog.pure_eq_ret, Prog.bind_ret]
    iintro ⟨HP, H⟩ Hk
    iapply Hk
    isplitl [HP] <;> iassumption
  | t :: ts, hn => by
    have ht : t ∉ ts.toFinset := fun h => (List.nodup_cons.mp hn).1 (List.mem_toFinset.mp h)
    unfold each
    have hi : ∀ X : Tile → sProp 𝕄, bigSep (insert t ts.toFinset) X = iprop(X t ∗ bigSep ts.toFinset X) := fun X => bigSep_insert ht
    rw [List.toFinset_cons, hi, hi]
    rw [show ((p t >>= fun _ => each ts p) >>= k) = (p t >>= fun _ => each ts p >>= k) from Prog.bind_assoc _ _ _]
    iintro ⟨HP, HΦ, Hrest⟩ Hk
    iapply (h t ts _ Q) $$ [HP HΦ]
    · isplitl [HP] <;> iassumption
    iintro ⟨HP, HΨ⟩
    iapply (runs_each c p P Φ Ψ h k Q ts (List.nodup_cons.mp hn).2) $$ [HP Hrest]
    · isplitl [HP] <;> iassumption
    iintro ⟨HP, Hrest⟩
    iapply Hk
    isplitl [HP]; · iexact HP
    isplitl [HΨ] <;> iassumption

theorem tiles_nodup : tiles.Nodup := by decide
theorem tiles_univ : tiles.toFinset = Finset.univ := by decide

/-- `runs_each` over all tiles. -/
theorem runs_tiles (c : Dev nD) (p : Tile → Prog (TpuEff nD τ sig (Elt F) Λ₀ .tc) PUnit) (P : List Tile → sProp 𝕄) (Φ Ψ : Tile → sProp 𝕄)
    (h : ∀ t ts (k : PUnit → Prog (TpuEff nD τ sig (Elt F) Λ₀ .tc) PUnit) (Q : PUnit → sProp 𝕄),
      iprop(P (t :: ts) ∗ Φ t) ⊢ iprop((iprop(P ts ∗ Ψ t) -∗ runs c (k ⟨⟩) Q) -∗ runs c (p t >>= k) Q))
    (k : PUnit → Prog (TpuEff nD τ sig (Elt F) Λ₀ .tc) PUnit) (Q : PUnit → sProp 𝕄) :
    iprop(P tiles ∗ bigSep Finset.univ Φ)
      ⊢ iprop((iprop(P [] ∗ bigSep Finset.univ Ψ) -∗ runs c (k ⟨⟩) Q) -∗ runs c (each tiles p >>= k) Q) := by
  have := runs_each c p P Φ Ψ h k Q tiles tiles_nodup
  rwa [tiles_univ] at this

/-! ## What lands -/

/-- A view written whole holds `g` on its elements, if what is written is `g` there. -/
theorem written {sp : Space} {s : Shape} {κ : Kind} (v : View sig κ sp s .f32) (f g : v.ty.Contents (Elt F)) (w : s.Idx → Elt F .f32)
    (h : ∀ j, cast (congrArg (Elt F) v.elt_eq.symm) (w j) = g (v.emb j)) : ∀ i ∈ v.set, v.write (Elt F) f w Finset.univ i = g i := fun i hi => by
  obtain ⟨j, rfl⟩ := View.exists_emb_of_mem_set v hi
  rw [View.write_emb_of_mem _ _ (Finset.mem_univ j)]; exact h j

section Steps
variable (x : Dev nD → S1x2048x1024.Idx → Elt F .f32) (K : Dev nD × Key → ℕ)

/-- What device `c` sends as tile `t` is what its neighbour is to receive. -/
theorem landed_y (c : Dev nD) (t : Tile) (f : S1024x512.Idx → Elt F .f32) :
    ∀ i ∈ (tile ryM t).view.set, (tile ryM t).view.write (Elt F) f ((srcTile argM c t).view.read (Elt F) (x c)) Finset.univ i = recvY x (yDev c) i :=
  written (tile ryM t).view f (recvY x (yDev c)) _ fun j => by
    show x c ((srcTile argM c t).view.emb j) = x (yDev (yDev c)) (sent (yDev (yDev c)) ((rectRecv t).emb j))
    rw [yDev_yDev, src_emb]

/-- A forwarded tile is what the other neighbour is to receive. -/
theorem landed_x (c : Dev nD) (t : Tile) (f : S1024x512.Idx → Elt F .f32) :
    ∀ i ∈ (tile rxM t).view.set, (tile rxM t).view.write (Elt F) f ((tile ryM t).view.read (Elt F) (recvY x c)) Finset.univ i = recvX x (xDev c) i :=
  written (tile rxM t).view f (recvX x (xDev c)) _ fun j => by
    show recvY x c ((rectRecv t).emb j) = recvY x (xDev (xDev c)) ((rectRecv t).emb j)
    rw [xDev_xDev]

/-- The local copy is the block kept. -/
theorem landed_loc (c : Dev nD) (f : S2048x512.Idx → Elt F .f32) :
    ∀ i ∈ locM.view.set, locM.view.write (Elt F) f ((srcOwn argM c).view.read (Elt F) (x c)) Finset.univ i = keptAt x c i :=
  written locM.view f (keptAt x c) _ fun j => by
    show x c ((srcOwn argM c).view.emb j) = x c (kept c j)
    rw [own_emb]

/-! ## The sends -/

/-- The first stage's send of a tile: its source to the sender's cell, the tile received to the neighbour's. -/
theorem send_y (c : Dev nD) (t : Tile) (f : S1024x512.Idx → Elt F .f32) (O : CellTallies nD τ sig Unit)
    {hsc : (tile ryM t).view.ref.isScScratch = false} {hsrc : (srcTile argM c t).view.WordExact} {hdst : (tile ryM t).view.WordExact}
    {hsem : DmaTarget.Typed .hbm (.dma (semOf cc0_scratch5 t)) (.remote (Dev.tc (yDev c) : Thread nD τ) (tile ryM t) (.dma (semOf cc0_scratch4 t)) hsc)}
    {k : PUnit → Prog (TpuEff nD τ sig (Elt F) Λ₀ .tc) PUnit} {Q : PUnit → sProp 𝕄} :
    iprop(records x K ∗ srcPts x c t ∗ yPts (yDev c) fullShare t f
        ∗ owing c (O + tallyAt (kcell (yDev c) (kLane 1 t)) () (tileAmt t))
        ∗ dutyTok ER (kcell c (kLane 0 t)) 0 false ∗ dutyTok ER (kcell (yDev c) (kLane 1 t)) 0 false)
      ⊢ iprop((iprop(cred (tallyAt (kcell c (kLane 0 t)) () (tileAmt t)) ∗ owing c O) -∗ runs c (k ⟨⟩) Q)
          -∗ runs c (.op (.enqueueDma (srcTile argM c t) (.remote (Dev.tc (yDev c) : Thread nD τ) (tile ryM t) (.dma (semOf cc0_scratch4 t)) hsc)
              (.dma (semOf cc0_scratch5 t)) hsrc hdst hsem) k) Q) := by
  unfold owing srcPts yPts
  iintro ⟨#HR, Hs, Hd, ⟨%W, HO⟩, Ht₁, Ht₂⟩ Hk
  iapply (Rounds.wp_send_pointsTo 𝒱₀ ER (sched x) (c : Thread nD τ) none (κ₁ := K (c, kLane 0 t)) (κ₂ := K (yDev c, kLane 1 t))
    (r₁ := 0) (r₂ := 0) (d₁ := false) (d₂ := false) (q := fullShare) (fs := x c) (fd := f) (false_mem x c (kLane 0 t)) (false_mem x (yDev c) (kLane 1 t))
    () () (tileAmt t) rfl (amount_key x c (kLane 0 t) false) (amount_key x (yDev c) (kLane 1 t) false) O rfl (W := W)
    (by rw [payload_key]; exact BI.Entails.refl _)
    (by rw [payload_key, pointsTo_congr (landed_y x c t f)]; exact BI.Entails.refl _)) $$ [Hs Hd HO Ht₁ Ht₂]
  · isplitr; · iapply (inv_at x K c (kLane 0 t)); iexact HR
    isplitr; · iapply (inv_at x K (yDev c) (kLane 1 t)); iexact HR
    isplitl [Hs]; · iexact Hs
    isplitl [Hd]; · iexact Hd
    isplitl [HO]; · iexact HO
    isplitl [Ht₁]; · iexact Ht₁
    isplitr; · iapply (reached_at x K c (kLane 0 t)); iexact HR
    isplitl [Ht₂]; · iexact Ht₂
    iapply (reached_at x K (yDev c) (kLane 1 t)); iexact HR
  iintro ⟨Hc, HO⟩
  iapply Hk
  isplitl [Hc]; · iexact Hc
  iexists W; iexact HO

/-- The second stage's send of a tile: half of its source to the sender's cell, the tile received to the neighbour's. -/
theorem send_x (c : Dev nD) (t : Tile) (f : S1024x512.Idx → Elt F .f32) (O : CellTallies nD τ sig Unit)
    {hsc : (tile rxM t).view.ref.isScScratch = false} {hsrc : (tile ryM t).view.WordExact} {hdst : (tile rxM t).view.WordExact}
    {hsem : DmaTarget.Typed .vmem (.dma (semOf cc0_scratch7 t)) (.remote (Dev.tc (xDev c) : Thread nD τ) (tile rxM t) (.dma (semOf cc0_scratch6 t)) hsc)}
    {k : PUnit → Prog (TpuEff nD τ sig (Elt F) Λ₀ .tc) PUnit} {Q : PUnit → sProp 𝕄} :
    iprop(records x K ∗ yPts c fullShare.left t (recvY x c) ∗ xPts (xDev c) t f
        ∗ owing c (O + tallyAt (kcell (xDev c) (kLane 3 t)) () (tileAmt t))
        ∗ dutyTok ER (kcell c (kLane 2 t)) 0 false ∗ dutyTok ER (kcell (xDev c) (kLane 3 t)) 0 false)
      ⊢ iprop((iprop(cred (tallyAt (kcell c (kLane 2 t)) () (tileAmt t)) ∗ owing c O) -∗ runs c (k ⟨⟩) Q)
          -∗ runs c (.op (.enqueueDma (tile ryM t) (.remote (Dev.tc (xDev c) : Thread nD τ) (tile rxM t) (.dma (semOf cc0_scratch6 t)) hsc)
              (.dma (semOf cc0_scratch7 t)) hsrc hdst hsem) k) Q) := by
  unfold owing yPts xPts
  iintro ⟨#HR, Hs, Hd, ⟨%W, HO⟩, Ht₁, Ht₂⟩ Hk
  iapply (Rounds.wp_send_pointsTo 𝒱₀ ER (sched x) (c : Thread nD τ) none (c' := (xDev c : Thread nD τ)) (src := tile ryM t)
    (dst := tile rxM t) (κ₁ := K (c, kLane 2 t)) (κ₂ := K (xDev c, kLane 3 t))
    (r₁ := 0) (r₂ := 0) (d₁ := false) (d₂ := false) (q := fullShare.left) (fs := recvY x c) (fd := f) (false_mem x c (kLane 2 t)) (false_mem x (xDev c) (kLane 3 t))
    () () (tileAmt t) rfl (amount_key x c (kLane 2 t) false) (amount_key x (xDev c) (kLane 3 t) false) O rfl (W := W)
    (by rw [payload_key]; exact BI.Entails.refl _)
    (by rw [payload_key, pointsTo_congr (landed_x x c t f)]; exact BI.Entails.refl _)) $$ [Hs Hd HO Ht₁ Ht₂]
  · isplitr; · iapply (inv_at x K c (kLane 2 t)); iexact HR
    isplitr; · iapply (inv_at x K (xDev c) (kLane 3 t)); iexact HR
    isplitl [Hs]; · iexact Hs
    isplitl [Hd]; · iexact Hd
    isplitl [HO]; · iexact HO
    isplitl [Ht₁]; · iexact Ht₁
    isplitr; · iapply (reached_at x K c (kLane 2 t)); iexact HR
    isplitl [Ht₂]; · iexact Ht₂
    iapply (reached_at x K (xDev c) (kLane 3 t)); iexact HR
  iintro ⟨Hc, HO⟩
  iapply Hk
  isplitl [Hc]; · iexact Hc
  iexists W; iexact HO

/-- The local copy: the block kept, copied, and its source to the copy's cell. -/
theorem copy_loc (c : Dev nD) (f : S2048x512.Idx → Elt F .f32)
    {hsrc : (srcOwn argM c).view.WordExact} {hdst : locM.view.WordExact}
    {hsem : DmaTarget.Typed .hbm (.dma cc0_scratch3.sem) (.here locM : DmaTarget nD τ sig .tc .vmem S2048x512 .f32)}
    {k : PUnit → Prog (TpuEff nD τ sig (Elt F) Λ₀ .tc) PUnit} {Q : PUnit → sProp 𝕄} :
    iprop(records x K ∗ ownPts x c ∗ locPts c f ∗ dutyTok ER (kcell c kLoc) 0 false)
      ⊢ iprop((cred (tallyAt (kcell c kLoc) () locAmt) -∗ runs c (k ⟨⟩) Q)
          -∗ runs c (.op (.enqueueDma (srcOwn argM c) (.here locM) (.dma cc0_scratch3.sem) hsrc hdst hsem) k) Q) := by
  unfold ownPts locPts
  iintro ⟨#HR, Hs, Hd, Ht⟩ Hk
  iapply (Rounds.wp_copy_pointsTo 𝒱₀ ER (sched x) (c : Thread nD τ) none (κ := K (c, kLoc)) (r := 0) (d := false) (q := fullShare)
    (fs := x c) (fd := f)
    (false_mem x c kLoc) () locAmt rfl (amount_key x c kLoc false)
    (by rw [payload_key, pointsTo_congr (landed_loc x c f)]; exact BI.Entails.refl _)) $$ [Hs Hd Ht]
  · isplitr; · iapply (inv_at x K c kLoc); iexact HR
    isplitl [Hs]; · iexact Hs
    isplitl [Hd]; · iexact Hd
    isplitl [Ht]; · iexact Ht
    iapply (reached_at x K c kLoc); iexact HR
  iexact Hk

/-! ## The waits -/

/-- A wait on a copy's cell for all its credits, everything owed being above it: its payload comes, and the cell is done. -/
theorem wait_own (c : Dev nD) (o : OwnKey) (O : CellTallies nD τ sig Unit) (hO : Above (level (.inr o)) O)
    {w : TpuEff nD τ sig (Elt F) Λ₀ .tc PUnit}
    (hw : ∀ Kt : PUnit → sProp 𝕄, wpE (defs₀ (F := F)) 𝒱₀ (c : Thread nD τ) none Set.univ w Kt
      = waitSpec (c : Thread nD τ) Set.univ (osem o) (amt (.inr o)) Kt)
    {k : PUnit → Prog (TpuEff nD τ sig (Elt F) Λ₀ .tc) PUnit} {Q : PUnit → sProp 𝕄} :
    iprop(records x K ∗ levAts L lv ∗ cred (tallyAt (kcell c (.inr o)) () (amt (.inr o))) ∗ owing c O ∗ atPos ER (kcell c (.inr o)) 0 ∅ 0)
      ⊢ iprop((iprop(owing c O ∗ atPos ER (kcell c (.inr o)) 1 ∅ 0 ∗ pay x c (.inr o) false) -∗ runs c (k ⟨⟩) Q) -∗ runs c (.op w k) Q) := by
  unfold owing
  iintro ⟨#HR, #HL, Hc, ⟨%W, HO⟩, Ha⟩ Hk
  iapply (Rounds.wp_wait_rest_token 𝒱₀ ER (sched x) (c : Thread nD τ) none (κ := K (c, .inr o)) hw (Set.mem_univ _) () (O := O) (W := W)
    (R := 0) (m := 0) (T := ∅) ((Nat.zero_add _).trans (expect_own x c o).symm)) $$ [Hc HO Ha]
  · isplitr; · iapply (inv_at x K c (.inr o)); iexact HR
    isplitl [Hc]; · iexact Hc
    isplitl [HO]; · iexact HO
    isplitr
    · iapply (mayWait c (osem o) O (by rw [show lv ((c : Thread nD τ), osem o) () = level (.inr o) from lv_key c (.inr o)]; exact hO)); iexact HL
    iexact Ha
  iintro ⟨HO, Ha, -, Hp⟩
  ihave Hp := (Entails.of_eq (rest_own x c o)) $$ Hp
  iapply Hk
  isplitl [HO]; · iexists _; iexact HO
  isplitl [Ha] <;> iassumption

end Steps

/-! ## The sum of a tile -/

/-- The sum of a tile: where the local block holds `fl` and the receive buffer `g`, the result holds their sum. -/
theorem add_tile (c : Dev nD) (b : Memref sig .tc .vmem S1024x512 .f32) (t : Tile) (off : Fin 2 → ℕ)
    (h : ∀ a, off a + (TS t).size a ≤ S2048x512.size a) (q : PosShare TreeShare)
    (fl : S2048x512.Idx → Elt F .f32) (g : b.view.ty.Contents (Elt F)) (fo go : S2048x512.Idx → Elt F .f32)
    (hgo : ∀ j : (TS t).Idx, FloatOps.addf (φ := .f32) (fl ((Rect.unit (s := S2048x512) off (TS t).size h).emb j))
      ((b.access (rectRecv t)).read (Elt F) g j) = go ((Rect.unit (s := S2048x512) off (TS t).size h).emb j))
    {k : PUnit → Prog (TpuEff nD τ sig (Elt F) Λ₀ .tc) PUnit} {Q : PUnit → sProp 𝕄} :
    iprop(locPts c fl ∗ ((b.access (rectRecv t)).loc (c : Thread nD τ) ↦[(b.access (rectRecv t)).set]{q} g)
        ∗ ((c : Thread nD τ).loc cc0_stg0_0 ↦[(Rect.unit (s := S2048x512) off (TS t).size h).set]{fullShare} fo))
      ⊢ iprop((iprop(locPts c fl ∗ ((b.access (rectRecv t)).loc (c : Thread nD τ) ↦[(b.access (rectRecv t)).set]{q} g)
            ∗ ((c : Thread nD τ).loc cc0_stg0_0 ↦[(Rect.unit (s := S2048x512) off (TS t).size h).set]{fullShare} go)) -∗ runs c (k ⟨⟩) Q)
          -∗ runs c (addTile outM locM b t off h >>= k) Q) := by
  have hset : (outM.access (Rect.unit (s := S2048x512) off (TS t).size h)).set = (Rect.unit (s := S2048x512) off (TS t).size h).set :=
    View.set_slice_whole _ _
  unfold addTile locPts
  simp only [Prog.lift, Prog.bind_op, Prog.bind_ret, Prog.pure_eq_ret]
  iintro ⟨Hl, Hb, Ho⟩ Hk
  iapply (wp_load_rect 𝒱₀ (c : Thread nD τ) none Set.univ (m := locM) (r := Rect.unit (s := S2048x512) off (TS t).size h)
    (View.set_slice_subset _ _)) $$ Hl
  iintro Hl
  iapply (wp_load_rect 𝒱₀ (c : Thread nD τ) none Set.univ (m := b) (r := rectRecv t) subset_rfl) $$ Hb
  iintro Hb
  iapply (wp_load_rect 𝒱₀ (c : Thread nD τ) none Set.univ (m := outM) (r := Rect.unit (s := S2048x512) off (TS t).size h) hset.subset) $$ Ho
  iintro Ho
  iapply (wp_store 𝒱₀ (c : Thread nD τ) none Set.univ (m := outM) (r := Rect.unit (s := S2048x512) off (TS t).size h) (Mk := Finset.univ)
    hset.subset) $$ Ho
  iintro Ho
  iapply Hk
  isplitl [Hl]; · iexact Hl
  isplitl [Hb]; · iexact Hb
  iapply (Entails.of_eq (pointsTo_congr (I := (Rect.unit (s := S2048x512) off (TS t).size h).set) (q := fullShare) (g := go)
    (by rw [← hset]; exact written (outM.access (Rect.unit (s := S2048x512) off (TS t).size h)) fo go _ hgo))) $$ Ho

end Cert.KernelIdeal.Sum

end
-- ==== Proof.Held.lean ====
/- What is held, cut into tiles and joined again. -/
module

public import proofs.«01_k».proof.Proof.Steps

@[expose] public section

noncomputable section

namespace Cert.KernelIdeal.Sum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells, array by array -/

/-- Something of every cell: of the barrier's, of the local copy's, and of each array's, tile by tile. -/
theorem keys_split (Φ : Key → sProp 𝕄) :
    bigSep Finset.univ Φ = iprop(Φ kBar ∗ Φ kLoc ∗ (bigSep Finset.univ fun t : Tile => Φ (kLane 0 t))
      ∗ (bigSep Finset.univ fun t : Tile => Φ (kLane 1 t)) ∗ (bigSep Finset.univ fun t : Tile => Φ (kLane 2 t))
      ∗ bigSep Finset.univ fun t : Tile => Φ (kLane 3 t)) := by
  rw [bigSep_univ_sum, bigSep_univ_of_subsingleton (), bigSep_univ_sum, bigSep_univ_of_subsingleton (), bigSep_univ_prod,
    bigSep_univ_eq_bigSepL [0, 1, 2, 3] (by decide) (by decide)]
  simp only [bigSepL_cons_cons, bigSepL_singleton]
  rfl

/-! ## Buffers, tile by tile -/

/-- A buffer is the pieces of it that are pairwise disjoint and cover it. -/
theorem whole_pieces {T : Type} [Fintype T] (ℓ : Loc nD τ sig) (f : Buf (Elt F) ℓ) (S : T → Finset (Idx ℓ))
    (hd : ∀ t t', t ≠ t' → Disjoint (S t) (S t')) (hc : Finset.univ.biUnion S = Finset.univ) :
    (ℓ ↦{fullShare} f : sProp 𝕄) = bigSep Finset.univ fun t => ℓ ↦[S t]{fullShare} f := by
  rw [← pointsTo_biUnion Finset.univ S fun t _ t' _ h => hd t t' h, hc]

theorem tile_set_y (t : Tile) : (tile ryM t).view.set = recvSet t := View.set_slice_whole _ _
theorem tile_set_x (t : Tile) : (tile rxM t).view.set = recvSet t := View.set_slice_whole _ _

/-- The first receive buffer is its tiles. -/
theorem y_tiles (c : Dev nD) (f : S1024x512.Idx → Elt F .f32) :
    ((c : Thread nD τ).loc cc0_scratch1 ↦{fullShare} f : sProp 𝕄) = bigSep Finset.univ fun t : Tile => yPts c fullShare t f := by
  unfold yPts
  refine (whole_pieces ((c : Thread nD τ).loc cc0_scratch1) f recvSet recvSet_disjoint recvSet_cover).trans (bigSep_congr fun t _ => ?_)
  rw [tile_set_y]

/-- The second receive buffer is its tiles. -/
theorem x_tiles (c : Dev nD) (f : S1024x512.Idx → Elt F .f32) :
    ((c : Thread nD τ).loc cc0_scratch2 ↦{fullShare} f : sProp 𝕄) = bigSep Finset.univ fun t : Tile => xPts c t f := by
  unfold xPts
  refine (whole_pieces ((c : Thread nD τ).loc cc0_scratch2) f recvSet recvSet_disjoint recvSet_cover).trans (bigSep_congr fun t _ => ?_)
  rw [tile_set_x]

theorem loc_whole (c : Dev nD) (f : S2048x512.Idx → Elt F .f32) :
    ((c : Thread nD τ).loc cc0_scratch0 ↦{fullShare} f : sProp 𝕄) = locPts c f := by
  unfold locPts
  rw [show locM.view.set = Finset.univ from View.set_whole _]

/-- A tile of the result: of the device's own half, or of the other half. -/
def outPts (c : Dev nD) (k : Tile ⊕ Tile) (f : S2048x512.Idx → Elt F .f32) : sProp 𝕄 :=
  (c : Thread nD τ).loc cc0_stg0_0 ↦[outSet c k]{fullShare} f

/-- The result is its tiles, of both halves. -/
theorem out_tiles (c : Dev nD) (f : S2048x512.Idx → Elt F .f32) :
    ((c : Thread nD τ).loc cc0_stg0_0 ↦{fullShare} f : sProp 𝕄)
      = iprop((bigSep Finset.univ fun t : Tile => outPts c (.inl t) f) ∗ bigSep Finset.univ fun t : Tile => outPts c (.inr t) f) := by
  unfold outPts
  exact (whole_pieces ((c : Thread nD τ).loc cc0_stg0_0) f (outSet c) (outSet_disjoint c) (outSet_cover c)).trans (bigSep_univ_sum _)

/-- A tile of the first receive buffer is its two halves. -/
theorem y_halves (c : Dev nD) (t : Tile) (f : S1024x512.Idx → Elt F .f32) :
    (yPts c fullShare t f : sProp 𝕄) = iprop(yPts c fullShare.left t f ∗ yPts c fullShare.right t f) := by
  unfold yPts
  exact BI.Entails.antisymm (pointsTo_share (PosShare.mem_left_op_right fullShare)).1 (pointsTo_share (PosShare.mem_left_op_right fullShare)).2

/-! ## The argument -/

section Arg
variable (x : Dev nD → S1x2048x1024.Idx → Elt F .f32)

/-- The elements of the argument that are neither kept nor sent by device `c`. -/
def idleSet (c : Dev nD) : Finset S1x2048x1024.Idx := (Finset.univ \ keptSet c) \ Finset.univ.biUnion (sentSet c)

/-- Those elements, as held. -/
def idlePts (c : Dev nD) : sProp 𝕄 := (c : Thread nD τ).loc main_arg0 ↦[idleSet c]{fullShare} x c

/-- The argument is the block kept, the tiles sent, and the rest. -/
theorem arg_cut (c : Dev nD) :
    ((c : Thread nD τ).loc main_arg0 ↦{fullShare} x c : sProp 𝕄)
      = iprop(ownPts x c ∗ (bigSep Finset.univ fun t : Tile => srcPts x c t) ∗ idlePts x c) := by
  have hs : Finset.univ.biUnion (sentSet c) ⊆ Finset.univ \ keptSet c := Finset.biUnion_subset.mpr fun t _ i hi =>
    Finset.mem_sdiff.mpr ⟨Finset.mem_univ _, fun hk => Finset.disjoint_left.mp (keptSet_disjoint c t) hk hi⟩
  have h1 := pointsTo_split_subset (ℓ := (c : Thread nD τ).loc main_arg0) (q := fullShare) (f := x c) (Finset.subset_univ (keptSet c))
    (Ix := Unit) (Name := ℕ) (U := UU) (Lvl := ℕ)
  have h2 := pointsTo_split_subset (ℓ := (c : Thread nD τ).loc main_arg0) (q := fullShare) (f := x c) hs
    (Ix := Unit) (Name := ℕ) (U := UU) (Lvl := ℕ)
  have h3 := pointsTo_biUnion (Ix := Unit) (Name := ℕ) (U := UU) (Lvl := ℕ) (ℓ := (c : Thread nD τ).loc main_arg0) (q := fullShare) (f := x c)
    Finset.univ (sentSet c) fun t _ t' _ ht => sentSet_disjoint c t t' ht
  rw [BI.Entails.antisymm h1.1 h1.2, BI.Entails.antisymm h2.1 h2.2, h3]
  rfl

end Arg

end Cert.KernelIdeal.Sum

end
-- ==== Proof.Body.lean ====
/- The body, run from what a device starts with to the result. -/
module

public import proofs.«01_k».proof.Proof.Held

@[expose] public section

noncomputable section

namespace Cert.KernelIdeal.Sum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the waits ask for -/

/-- A wait asks for the credits of a copy to its destination. -/
theorem wait_asks (c : Dev nD) {sp sp' : Space} {s s' : Shape} {e e' : EltTy} {sem : DmaSem sig} {src : Memref sig .tc sp' s' e'}
    {dst : Memref sig .tc sp s e} {hsrc : src.view.WordExact} {hdst : dst.view.WordExact} {n : ℕ} (h : dst.view.dmaCredit = n)
    (Kt : PUnit → sProp 𝕄) :
    wpE (defs₀ (F := F)) 𝒱₀ (c : Thread nD τ) none Set.univ (.waitDma2 sem src dst hsrc hdst) Kt
      = waitSpec (c : Thread nD τ) Set.univ (.dma sem) n Kt := by
  subst h; exact wpE_waitDma2_eq 𝒱₀ (c : Thread nD τ) none Set.univ Kt

theorem credit_x (t : Tile) : (tile rxM t).view.dmaCredit = tileAmt t := rfl
theorem credit_src (c : Dev nD) (t : Tile) : (srcTile argM c t).view.dmaCredit = tileAmt t := rfl

section Body
variable (x : Dev nD → S1x2048x1024.Idx → Elt F .f32) (K : Dev nD × Key → ℕ) (c : Dev nD)

/-! ## The four loops -/

/-- The first loop sends every tile to the neighbour of the other column block. -/
theorem loop_send (f : S1024x512.Idx → Elt F .f32) (k : PUnit → Prog (TpuEff nD τ sig (Elt F) Λ₀ .tc) PUnit) (Q : PUnit → sProp 𝕄) :
    iprop((records x K ∗ owing c (dueX c tiles + dueY c tiles)) ∗ bigSep Finset.univ fun t : Tile =>
        iprop(srcPts x c t ∗ yPts (yDev c) fullShare t f ∗ dutyTok ER (kcell c (kLane 0 t)) 0 false
          ∗ dutyTok ER (kcell (yDev c) (kLane 1 t)) 0 false))
      ⊢ iprop((iprop((records x K ∗ owing c (dueX c tiles)) ∗ bigSep Finset.univ fun t : Tile =>
            cred (tallyAt (kcell c (kLane 0 t)) () (tileAmt t))) -∗ runs c (k ⟨⟩) Q)
          -∗ runs c (each tiles (sendTile argM ryM cc0_scratch4 cc0_scratch5 c) >>= k) Q) := by
  have h := runs_tiles c (sendTile (F := F) argM ryM cc0_scratch4 cc0_scratch5 c)
    (fun ts => iprop(records x K ∗ owing c (dueX c tiles + dueY c ts)))
    (fun t => iprop(srcPts x c t ∗ yPts (yDev c) fullShare t f ∗ dutyTok ER (kcell c (kLane 0 t)) 0 false
          ∗ dutyTok ER (kcell (yDev c) (kLane 1 t)) 0 false))
    (fun t => cred (tallyAt (kcell c (kLane 0 t)) () (tileAmt t)))
    (fun t ts k Q => by
      simp only [sendTile, Prog.lift, Prog.bind_op, Prog.bind_ret]
      rw [dueY_cons, ← add_assoc]
      iintro ⟨⟨#HR, HO⟩, Hs, Hd, Ht₁, Ht₂⟩ Hk
      iapply (send_y x K c t f (dueX c tiles + dueY c ts)) $$ [HO Hs Hd Ht₁ Ht₂]
      · isplitr; · iexact HR
        isplitl [Hs]; · iexact Hs
        isplitl [Hd]; · iexact Hd
        isplitl [HO]; · iexact HO
        isplitl [Ht₁] <;> iassumption
      iintro ⟨Hc, HO⟩
      iapply Hk
      isplitl [HO]
      · isplitr; · iexact HR
        iexact HO
      iexact Hc) k Q
  rwa [show dueY c [] = 0 from rfl, add_zero] at h

/-- The second loop: every tile comes, is forwarded and is added in the device's own half. -/
theorem loop_pass (f : S1024x512.Idx → Elt F .f32) (fo : S2048x512.Idx → Elt F .f32)
    (k : PUnit → Prog (TpuEff nD τ sig (Elt F) Λ₀ .tc) PUnit) (Q : PUnit → sProp 𝕄) :
    iprop((records x K ∗ levAts L lv ∗ owing c (dueX c tiles) ∗ locPts c (keptAt x c)) ∗ bigSep Finset.univ fun t : Tile =>
        iprop(atPos ER (kcell c (kLane 1 t)) 0 ∅ 0 ∗ cred (tallyAt (kcell c (kLane 1 t)) () (tileAmt t)) ∗ xPts (xDev c) t f
          ∗ dutyTok ER (kcell c (kLane 2 t)) 0 false ∗ dutyTok ER (kcell (xDev c) (kLane 3 t)) 0 false ∗ outPts c (.inl t) fo))
      ⊢ iprop((iprop((records x K ∗ levAts L lv ∗ owing c 0 ∗ locPts c (keptAt x c)) ∗ bigSep Finset.univ fun t : Tile =>
            iprop(atPos ER (kcell c (kLane 1 t)) 1 ∅ 0 ∗ cred (tallyAt (kcell c (kLane 2 t)) () (tileAmt t))
              ∗ yPts c fullShare.right t (recvY x c) ∗ outPts c (.inl t) (outAt x c))) -∗ runs c (k ⟨⟩) Q)
          -∗ runs c (each tiles (passTile argM outM locM ryM rxM cc0_scratch5 cc0_scratch6 cc0_scratch7 c) >>= k) Q) := by
  exact runs_tiles c (passTile (F := F) argM outM locM ryM rxM cc0_scratch5 cc0_scratch6 cc0_scratch7 c)
    (fun ts => iprop(records x K ∗ levAts L lv ∗ owing c (dueX c ts) ∗ locPts c (keptAt x c)))
    (fun t => iprop(atPos ER (kcell c (kLane 1 t)) 0 ∅ 0 ∗ cred (tallyAt (kcell c (kLane 1 t)) () (tileAmt t)) ∗ xPts (xDev c) t f
          ∗ dutyTok ER (kcell c (kLane 2 t)) 0 false ∗ dutyTok ER (kcell (xDev c) (kLane 3 t)) 0 false ∗ outPts c (.inl t) fo))
    (fun t => iprop(atPos ER (kcell c (kLane 1 t)) 1 ∅ 0 ∗ cred (tallyAt (kcell c (kLane 2 t)) () (tileAmt t))
              ∗ yPts c fullShare.right t (recvY x c) ∗ outPts c (.inl t) (outAt x c)))
    (fun t ts k Q => by
      simp only [passTile, Prog.lift, Prog.bind_op, Prog.bind_ret]
      iintro ⟨⟨#HR, #HL, HO, Hl⟩, Ha, Hc, Hd, Ht₁, Ht₂, Ho⟩ Hk
      iapply (wait_own x K c (.inr (1, t)) (dueX c (t :: ts)) (above_dueX c _) (wait_asks c rfl)) $$ [HO Ha Hc]
      · isplitr; · iexact HR
        isplitr; · iexact HL
        isplitl [Hc]; · iexact Hc
        isplitl [HO] <;> iassumption
      iintro ⟨HO, Ha, Hp⟩
      rw [dueX_cons]
      ihave Hy := (Entails.of_eq ((show pay x c (kLane 1 t) false = yPts c fullShare t (recvY x c) from rfl).trans (y_halves c t (recvY x c)))) $$ Hp
      icases Hy with ⟨Hyl, Hyr⟩
      iapply (send_x x K c t f (dueX c ts)) $$ [HO Hyl Hd Ht₁ Ht₂]
      · isplitr; · iexact HR
        isplitl [Hyl]; · iexact Hyl
        isplitl [Hd]; · iexact Hd
        isplitl [HO]; · iexact HO
        isplitl [Ht₁] <;> iassumption
      iintro ⟨Hc, HO⟩
      unfold yPts outPts
      iapply (add_tile c ryM t (k0_off4 c (BitVec.ofNat 32 (row t))) (me_inb c t) fullShare.right (keptAt x c) (recvY x c) fo (outAt x c)
        (sum_me x c t)) $$ [Hl Hyr Ho]
      · isplitl [Hl]; · iexact Hl
        isplitl [Hyr]; · iexact Hyr
        iexact Ho
      iintro ⟨Hl, Hyr, Ho⟩
      iapply Hk
      isplitl [HO Hl]
      · isplitr; · iexact HR
        isplitr; · iexact HL
        isplitl [HO] <;> iassumption
      isplitl [Ha]; · iexact Ha
      isplitl [Hc]; · iexact Hc
      isplitl [Hyr]; · iexact Hyr
      iexact Ho) k Q

/-- The third loop: every forwarded tile comes and is added in the other half. -/
theorem loop_take (fo : S2048x512.Idx → Elt F .f32)
    (k : PUnit → Prog (TpuEff nD τ sig (Elt F) Λ₀ .tc) PUnit) (Q : PUnit → sProp 𝕄) :
    iprop((records x K ∗ levAts L lv ∗ owing c 0 ∗ locPts c (keptAt x c)) ∗ bigSep Finset.univ fun t : Tile =>
        iprop(atPos ER (kcell c (kLane 3 t)) 0 ∅ 0 ∗ cred (tallyAt (kcell c (kLane 3 t)) () (tileAmt t)) ∗ outPts c (.inr t) fo))
      ⊢ iprop((iprop((records x K ∗ levAts L lv ∗ owing c 0 ∗ locPts c (keptAt x c)) ∗ bigSep Finset.univ fun t : Tile =>
            iprop(atPos ER (kcell c (kLane 3 t)) 1 ∅ 0 ∗ xPts c t (recvX x c) ∗ outPts c (.inr t) (outAt x c))) -∗ runs c (k ⟨⟩) Q)
          -∗ runs c (each tiles (takeTile outM locM ryM rxM cc0_scratch7 c) >>= k) Q) := by
  exact runs_tiles c (takeTile (F := F) outM locM ryM rxM cc0_scratch7 c)
    (fun _ => iprop(records x K ∗ levAts L lv ∗ owing c 0 ∗ locPts c (keptAt x c)))
    (fun t => iprop(atPos ER (kcell c (kLane 3 t)) 0 ∅ 0 ∗ cred (tallyAt (kcell c (kLane 3 t)) () (tileAmt t)) ∗ outPts c (.inr t) fo))
    (fun t => iprop(atPos ER (kcell c (kLane 3 t)) 1 ∅ 0 ∗ xPts c t (recvX x c) ∗ outPts c (.inr t) (outAt x c)))
    (fun t ts k Q => by
      simp only [takeTile, Prog.lift, Prog.bind_op, Prog.bind_ret]
      iintro ⟨⟨#HR, #HL, HO, Hl⟩, Ha, Hc, Ho⟩ Hk
      iapply (wait_own x K c (.inr (3, t)) 0 (Above.zero _) (wait_asks c (credit_x t))) $$ [HO Ha Hc]
      · isplitr; · iexact HR
        isplitr; · iexact HL
        isplitl [Hc]; · iexact Hc
        isplitl [HO] <;> iassumption
      iintro ⟨HO, Ha, Hp⟩
      ihave Hx := (Entails.of_eq (show pay x c (kLane 3 t) false = xPts c t (recvX x c) from rfl)) $$ Hp
      unfold xPts outPts
      iapply (add_tile c rxM t (k0_off6 c (BitVec.ofNat 32 (row t))) (other_inb c t) fullShare (keptAt x c) (recvX x c) fo (outAt x c)
        (sum_other x c t)) $$ [Hl Hx Ho]
      · isplitl [Hl]; · iexact Hl
        isplitl [Hx]; · iexact Hx
        iexact Ho
      iintro ⟨Hl, Hx, Ho⟩
      iapply Hk
      isplitl [HO Hl]
      · isplitr; · iexact HR
        isplitr; · iexact HL
        isplitl [HO] <;> iassumption
      isplitl [Ha]; · iexact Ha
      isplitl [Hx]; · iexact Hx
      iexact Ho) k Q

/-- The last loop: every tile sent, in both stages, is given back. -/
theorem loop_done (k : PUnit → Prog (TpuEff nD τ sig (Elt F) Λ₀ .tc) PUnit) (Q : PUnit → sProp 𝕄) :
    iprop((records x K ∗ levAts L lv ∗ owing c 0) ∗ bigSep Finset.univ fun t : Tile =>
        iprop(atPos ER (kcell c (kLane 0 t)) 0 ∅ 0 ∗ cred (tallyAt (kcell c (kLane 0 t)) () (tileAmt t))
          ∗ atPos ER (kcell c (kLane 2 t)) 0 ∅ 0 ∗ cred (tallyAt (kcell c (kLane 2 t)) () (tileAmt t))))
      ⊢ iprop((iprop((records x K ∗ levAts L lv ∗ owing c 0) ∗ bigSep Finset.univ fun t : Tile =>
            iprop(atPos ER (kcell c (kLane 0 t)) 1 ∅ 0 ∗ srcPts x c t
              ∗ atPos ER (kcell c (kLane 2 t)) 1 ∅ 0 ∗ yPts c fullShare.left t (recvY x c))) -∗ runs c (k ⟨⟩) Q)
          -∗ runs c (each tiles (doneTile argM ryM rxM cc0_scratch4 cc0_scratch6 c) >>= k) Q) := by
  exact runs_tiles c (doneTile (F := F) argM ryM rxM cc0_scratch4 cc0_scratch6 c)
    (fun _ => iprop(records x K ∗ levAts L lv ∗ owing c 0))
    (fun t => iprop(atPos ER (kcell c (kLane 0 t)) 0 ∅ 0 ∗ cred (tallyAt (kcell c (kLane 0 t)) () (tileAmt t))
          ∗ atPos ER (kcell c (kLane 2 t)) 0 ∅ 0 ∗ cred (tallyAt (kcell c (kLane 2 t)) () (tileAmt t))))
    (fun t => iprop(atPos ER (kcell c (kLane 0 t)) 1 ∅ 0 ∗ srcPts x c t
              ∗ atPos ER (kcell c (kLane 2 t)) 1 ∅ 0 ∗ yPts c fullShare.left t (recvY x c)))
    (fun t ts k Q => by
      simp only [doneTile, Prog.lift, Prog.bind_op, Prog.bind_ret]
      iintro ⟨⟨#HR, #HL, HO⟩, Ha₀, Hc₀, Ha₂, Hc₂⟩ Hk
      iapply (wait_own x K c (.inr (0, t)) 0 (Above.zero _) (wait_asks c (credit_src c t))) $$ [HO Ha₀ Hc₀]
      · isplitr; · iexact HR
        isplitr; · iexact HL
        isplitl [Hc₀]; · iexact Hc₀
        isplitl [HO] <;> iassumption
      iintro ⟨HO, Ha₀, Hp₀⟩
      iapply (wait_own x K c (.inr (2, t)) 0 (Above.zero _) (wait_asks c rfl)) $$ [HO Ha₂ Hc₂]
      · isplitr; · iexact HR
        isplitr; · iexact HL
        isplitl [Hc₂]; · iexact Hc₂
        isplitl [HO] <;> iassumption
      iintro ⟨HO, Ha₂, Hp₂⟩
      iapply Hk
      isplitl [HO]
      · isplitr; · iexact HR
        isplitr; · iexact HL
        iexact HO
      isplitl [Ha₀]; · iexact Ha₀
      isplitl [Hp₀]; · iapply (Entails.of_eq (show pay x c (kLane 0 t) false = srcPts x c t from rfl)); iexact Hp₀
      isplitl [Ha₂]; · iexact Ha₂
      iapply (Entails.of_eq (show pay x c (kLane 2 t) false = yPts c fullShare.left t (recvY x c) from rfl)); iexact Hp₂) k Q

/-! ## Closing the cells -/

/-- Every cell past its one round is closed, its counter zero. -/
theorem close_all :
    iprop(records x K ∗ bigSep Finset.univ fun k : Key => atPos ER (kcell c k) 1 ∅ 0)
      ⊢ iprop(|={Set.univ}=> bigSep Finset.univ fun k : Key => semVal (kcell c k) 0) := by
  refine BI.Entails.trans ?_ (bigSep_fupd Finset.univ fun k : Key => semVal (kcell c k) 0)
  refine (sep_mono_left (BI.bigSep_of_persistent (Finset.univ : Finset Key) (records x K))).trans ?_
  rw [← bigSep_sep']
  refine bigSep_mono fun k _ => ?_
  show iprop(records x K ∗ atPos ER (kcell c k) 1 ∅ 0) ⊢ iprop(|={Set.univ}=> semVal (kcell c k) 0)
  iintro ⟨#HR, Ha⟩
  iapply (Rounds.cell_close ER (sched x) (Set.mem_univ (K (c, k))) (fun h => h) (R := 0 + 1) (duties_later x (kcell c k)))
  isplitr; · iapply (inv_at x K c k); iexact HR
  iexact Ha

/-! ## The body -/

/-- What a device holds before the body: what it starts from, what it owes, and its buffers. -/
def bodyPre : sProp 𝕄 :=
  iprop(start x K c ∗ owing c (owed₀ c) ∗ ((c : Thread nD τ).loc main_arg0 ↦{fullShare} x c)
    ∗ (∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f) ∗ (∃ f, (c : Thread nD τ).loc cc0_stg0_0 ↦{fullShare} f))

/-- What it holds after: nothing owed, the argument as it was, every counter zero, and the result. -/
def bodyPost : sProp 𝕄 :=
  iprop(owing c 0 ∗ ((c : Thread nD τ).loc main_arg0 ↦{fullShare} x c) ∗ (bigSep Finset.univ fun k : Key => semVal (kcell c k) 0)
    ∗ (∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f) ∗ ((c : Thread nD τ).loc cc0_stg0_0 ↦{fullShare} outAt x c))

theorem yAll_intro : iprop(∃ f, (c : Thread nD τ).loc cc0_scratch1 ↦{fullShare} f) ⊢ (yAll c : sProp 𝕄) := by
  unfold yAll; iintro ⟨%f, H⟩; iexists f; iapply (Entails.of_eq (y_tiles c f)); iexact H

theorem xAll_intro : iprop(∃ f, (c : Thread nD τ).loc cc0_scratch2 ↦{fullShare} f) ⊢ (xAll c : sProp 𝕄) := by
  unfold xAll; iintro ⟨%f, H⟩; iexists f; iapply (Entails.of_eq (x_tiles c f)); iexact H

theorem sound_loops (Kt : PUnit → sProp 𝕄) :
    iprop(bodyPre x K c ∗ (bodyPost x c -∗ Kt ⟨⟩))
      ⊢ runs c (loops argM outM locM (Memref.isWhole_whole _) ryM rxM cc0_scratch3 cc0_scratch4 cc0_scratch5 cc0_scratch6 cc0_scratch7) Kt := by
  rw [show (loops (F := F) argM outM locM (Memref.isWhole_whole _) ryM rxM cc0_scratch3 cc0_scratch4 cc0_scratch5 cc0_scratch6 cc0_scratch7)
    = (loops (F := F) argM outM locM (Memref.isWhole_whole _) ryM rxM cc0_scratch3 cc0_scratch4 cc0_scratch5 cc0_scratch6 cc0_scratch7 >>= Prog.ret)
    from (bind_pure _).symm]
  simp only [loops, bind_assoc]
  simp only [semSignalWord, semWaitWord, Prog.lift, Prog.bind_op, Prog.bind_ret, wp_deviceId]
  unfold bodyPre start
  rw [keys_split]
  simp only [seat, bigSep_sep']
  iintro ⟨⟨⟨#HR, #HL, ⟨⟨HaB, HtB, HcB⟩, ⟨HaL, HtL, -⟩, ⟨Ha0, Ht0, -⟩, ⟨Ha1, Ht1, Hc1⟩, ⟨Ha2, Ht2, -⟩, Ha3, Ht3, Hc3⟩, HtB'⟩, HO, Harg, ⟨%f0, Hl⟩, Hy, Hx, ⟨%fo, Hout⟩⟩, Hk⟩
  ihave Harg := (Entails.of_eq (arg_cut x c)) $$ Harg
  icases Harg with ⟨Hown, Hsrc, Hidle⟩
  ihave Hout := (Entails.of_eq (out_tiles c fo)) $$ Hout
  icases Hout with ⟨Hme, Hother⟩
  ihave Hl := (Entails.of_eq (loc_whole c f0)) $$ Hl
  ihave Hy := (yAll_intro c) $$ Hy
  ihave Hx := (xAll_intro c) $$ Hx
  -- the local copy starts
  iapply (copy_loc x K c f0) $$ [Hown Hl HtL]
  · isplitr; · iexact HR
    isplitl [Hown]; · iexact Hown
    isplitl [Hl]; · iexact Hl
    iexact HtL
  iintro HcL
  -- a signal to each neighbour hands over the receive buffer that it copies to
  unfold owing
  icases HO with ⟨%W, HO⟩
  iapply (Rounds.wp_signal 𝒱₀ ER (sched x) (c : Thread nD τ) none (dst := (yDev c : Thread nD τ)) (κ := K (yDev c, kBar)) (r := 0)
      (d := false) (false_mem x (yDev c) kBar) ((amount_key x (yDev c) kBar false).trans (by decide)) () (owed₁ c) rfl) $$ [HO HtB Hy]
  · isplitr; · iapply (inv_at x K (yDev c) kBar); iexact HR
    isplitl [HO]; · iexact HO
    isplitl [HtB]; · iexact HtB
    isplitl [Hy]
    · iapply (Entails.of_eq (show yAll c = (sched x).payload (kcell (yDev c) kBar) 0 false from
        ((payload_key x (yDev c) kBar false).trans (congrArg yAll (yDev_yDev c))).symm)); iexact Hy
    · iapply (reached_at x K (yDev c) kBar); iexact HR
  iintro HO
  iapply (Rounds.wp_signal 𝒱₀ ER (sched x) (c : Thread nD τ) none (dst := (xDev c : Thread nD τ)) (κ := K (xDev c, kBar)) (r := 0)
      (d := true) (true_mem x (xDev c)) ((amount_key x (xDev c) kBar true).trans (by decide)) () (owed₂ c) rfl) $$ [HO HtB' Hx]
  · isplitr; · iapply (inv_at x K (xDev c) kBar); iexact HR
    isplitl [HO]; · iexact HO
    isplitl [HtB']; · iexact HtB'
    isplitl [Hx]
    · iapply (Entails.of_eq (show xAll c = (sched x).payload (kcell (xDev c) kBar) 0 true from
        ((payload_key x (xDev c) kBar true).trans (congrArg xAll (xDev_xDev c))).symm)); iexact Hx
    · iapply (reached_at x K (xDev c) kBar); iexact HR
  iintro HO
  -- the wait for both: the neighbours' receive buffers
  iapply (Rounds.wp_wait_rest_token 𝒱₀ ER (sched x) (c : Thread nD τ) none (κ := K (c, kBar))
      (wpE_semWait_eq 𝒱₀ (c : Thread nD τ) none Set.univ) (Set.mem_univ _) () (O := owed₂ c) (W := W) (R := 0) (m := 0) (T := ∅)
      (by rw [show (sched x).expect ((c : Thread nD τ), .reg barSems.sem) 0 = 2 from expect_bar x c]; decide)) $$ [HcB HO HaB]
  · isplitr; · iapply (inv_at x K c kBar); iexact HR
    isplitl [HcB]; · iexact HcB
    isplitl [HO]; · iexact HO
    isplitr; · iapply (mayWait c (csem kBar) (owed₂ c) (by rw [show lv ((c : Thread nD τ), csem kBar) () = 1 from lv_key c kBar]; exact above_owed₂ c)); iexact HL
    iexact HaB
  iintro ⟨HO, HaB, -, Hp⟩
  ihave Hp := (Entails.of_eq (rest_bar x c)) $$ Hp
  unfold yAll xAll
  icases Hp with ⟨⟨%fy, Hy⟩, %fx, Hx⟩
  -- the loops
  iapply (loop_send x K c fy) $$ [HO Hsrc Hy Ht0 Ht1]
  · simp only [bigSep_sep']
    isplitl [HO]
    · isplitr; · iexact HR
      unfold owing owed₂; iexists _; iexact HO
    isplitl [Hsrc]; · iexact Hsrc
    isplitl [Hy]; · iexact Hy
    isplitl [Ht0]; · iexact Ht0
    iexact Ht1
  iintro ⟨⟨-, HO⟩, Hc0⟩
  iapply (wait_own x K c (.inl ()) (dueX c tiles) ((above_dueX c _).mono (by decide)) (wpE_waitDma2_eq 𝒱₀ (c : Thread nD τ) none Set.univ)) $$ [HO HaL HcL]
  · isplitr; · iexact HR
    isplitr; · iexact HL
    isplitl [HcL]; · iexact HcL
    isplitl [HO] <;> iassumption
  iintro ⟨HO, HaL, Hp⟩
  ihave Hp := (Entails.of_eq (show pay x c kLoc false = iprop(locPts c (keptAt x c) ∗ ownPts x c) from rfl)) $$ Hp
  icases Hp with ⟨Hl, Hown⟩
  iapply (loop_pass x K c fx fo) $$ [HO Hl Ha1 Hc1 Hx Ht2 Ht3 Hme]
  · simp only [bigSep_sep']
    isplitl [HO Hl]
    · isplitr; · iexact HR
      isplitr; · iexact HL
      isplitl [HO] <;> iassumption
    isplitl [Ha1]; · iexact Ha1
    isplitl [Hc1]; · iexact Hc1
    isplitl [Hx]; · iexact Hx
    isplitl [Ht2]; · iexact Ht2
    isplitl [Ht3]; · iexact Ht3
    iexact Hme
  simp only [bigSep_sep']
  iintro ⟨⟨-, -, HO, Hl⟩, Ha1, Hc2, Hyr, Hme⟩
  iapply (loop_take x K c fo) $$ [HO Hl Ha3 Hc3 Hother]
  · simp only [bigSep_sep']
    isplitl [HO Hl]
    · isplitr; · iexact HR
      isplitr; · iexact HL
      isplitl [HO] <;> iassumption
    isplitl [Ha3]; · iexact Ha3
    isplitl [Hc3]; · iexact Hc3
    iexact Hother
  simp only [bigSep_sep']
  iintro ⟨⟨-, -, HO, Hl⟩, Ha3, Hx, Hother⟩
  iapply (loop_done x K c) $$ [HO Ha0 Hc0 Ha2 Hc2]
  · simp only [bigSep_sep']
    isplitl [HO]
    · isplitr; · iexact HR
      isplitr; · iexact HL
      iexact HO
    isplitl [Ha0]; · iexact Ha0
    isplitl [Hc0]; · iexact Hc0
    isplitl [Ha2] <;> iassumption
  simp only [bigSep_sep']
  iintro ⟨⟨-, -, HO⟩, Ha0, Hsrc, Ha2, Hyl⟩
  -- the cells are closed, the buffers whole again
  imod (close_all x K c) $$ [HaB HaL Ha0 Ha1 Ha2 Ha3] with Hz
  · isplitr; · iexact HR
    rw [keys_split]
    isplitl [HaB]; · iexact HaB
    isplitl [HaL]; · iexact HaL
    isplitl [Ha0]; · iexact Ha0
    isplitl [Ha1]; · iexact Ha1
    isplitl [Ha2] <;> iassumption
  rw [wp_ret]; imodintro
  iapply Hk
  unfold bodyPost
  isplitl [HO]; · iexact HO
  isplitl [Hown Hsrc Hidle]
  · rw [arg_cut]
    isplitl [Hown]; · iexact Hown
    isplitl [Hsrc] <;> iassumption
  isplitl [Hz]; · iexact Hz
  isplitl [Hl]; · iexists keptAt x c; rw [loc_whole]; iexact Hl
  isplitl [Hyl Hyr]
  · iexists recvY x c
    rw [y_tiles]; simp only [y_halves, bigSep_sep']
    isplitl [Hyl] <;> iassumption
  isplitl [Hx]; · iexists recvX x c; rw [x_tiles]; iexact Hx
  rw [out_tiles]
  isplitl [Hme] <;> iassumption

end Body

end Cert.KernelIdeal.Sum

end
-- ==== Proof.Ghost.lean ====
/- The launch's ghost state: how the cells' invariants are made, and how tokens and credits are dealt. -/
module

public import proofs.«01_k».proof.Proof.Body
public import proofs.«01_k».proof.Proof.Gen.KernelIdeal.Launch

@[expose] public section

noncomputable section

namespace Cert.KernelIdeal.Sum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Every cell and every token of the mesh -/

theorem kcell_injective : Function.Injective fun ck : Dev nD × Key => kcell ck.1 ck.2 := by
  rintro ⟨c, k⟩ ⟨c', k'⟩ h
  have hc : c = c' := congrArg (fun g : GSem nD τ sig => g.1.1) h
  have hk : k = k' := csem_injective (congrArg Prod.snd h)
  rw [hc, hk]

/-- All cells. -/
def allCells : Finset (GSem nD τ sig) := Finset.univ.map ⟨_, kcell_injective⟩

/-- The duties of a device's cells: `false` at each, and `true` at the barrier's. -/
abbrev tokOf (ck : Dev nD × (Key ⊕ Unit)) : GSem nD τ sig × ℕ × Bool :=
  match ck.2 with
  | .inl k => (kcell ck.1 k, 0, false)
  | .inr _ => (kcell ck.1 kBar, 0, true)

theorem tokOf_injective : Function.Injective tokOf := by
  rintro ⟨c, k | _⟩ ⟨c', k' | _⟩ h
  · have h' := kcell_injective (a₁ := (c, k)) (a₂ := (c', k')) (congrArg Prod.fst h)
    injection h' with h1 h2; rw [h1, h2]
  · exact absurd (show false = true from congrArg (fun g : GSem nD τ sig × ℕ × Bool => g.2.2) h) (by decide)
  · exact absurd (show true = false from congrArg (fun g : GSem nD τ sig × ℕ × Bool => g.2.2) h) (by decide)
  · have h' := kcell_injective (a₁ := (c, kBar)) (a₂ := (c', kBar)) (congrArg Prod.fst h)
    injection h' with h1 h2; rw [h1]

/-- All tokens. -/
def allToks : Finset (GSem nD τ sig × ℕ × Bool) := Finset.univ.map ⟨_, tokOf_injective⟩

/-- The tokens of the duties at a device's own cells. -/
def toks (c : Dev nD) : sProp 𝕄 :=
  iprop((bigSep Finset.univ fun k : Key => dutyTok ER (kcell c k) 0 false) ∗ dutyTok ER (kcell c kBar) 0 true)

/-- The tokens of the duties a device pays. -/
def payToks (c : Dev nD) : sProp 𝕄 :=
  iprop((bigSep Finset.univ fun k : Key => dutyTok ER (kcell (peer k c) k) 0 false) ∗ dutyTok ER (kcell (xDev c) kBar) 0 true)

theorem peer_peer : ∀ (k : Key) (c : Dev nD), peer k (peer k c) = c := by decide +kernel

/-- The tokens go from the cells' devices to the devices that pay. -/
theorem toks_dealt : (bigSep Finset.univ fun c : Dev nD => (toks c : sProp 𝕄)) ⊢ bigSep Finset.univ fun c : Dev nD => payToks c := by
  unfold toks payToks
  rw [bigSep_sep', bigSep_sep']
  refine BI.sep_mono ?_ (Entails.of_eq (bigSep_univ_equiv (Function.Involutive.toPerm xDev xDev_xDev)
    (fun c : Dev nD => (dutyTok ER (kcell c kBar) 0 true : sProp 𝕄))))
  rw [BI.bigSep_univ_comm (fun (c : Dev nD) (k : Key) => (dutyTok ER (kcell c k) 0 false : sProp 𝕄)),
    BI.bigSep_univ_comm (fun (c : Dev nD) (k : Key) => (dutyTok ER (kcell (peer k c) k) 0 false : sProp 𝕄))]
  exact bigSep_mono fun k _ => Entails.of_eq (bigSep_univ_equiv (Function.Involutive.toPerm (peer k) (peer_peer k))
    (fun c : Dev nD => (dutyTok ER (kcell c k) 0 false : sProp 𝕄)))

section Alloc
variable (x : Dev nD → S1x2048x1024.Idx → Elt F .f32)

/-- What the launch element gives a device. -/
def G (c : Dev nD) : sProp 𝕄 :=
  iprop((bigSep Finset.univ fun k : Key => roundState ER (sched x) (kcell c k) 0)
    ∗ (bigSep Finset.univ fun k : Key => iprop(atPos ER (kcell c k) 0 ∅ 0 ∗ reached ER (kcell c k) 0)) ∗ toks c)

/-- What it has once the invariants are made: their records, its positions, and the tokens it pays with. -/
def G' (c : Dev nD) : sProp 𝕄 :=
  iprop(∃ K, records x K ∗ (bigSep Finset.univ fun k : Key => atPos ER (kcell c k) 0 ∅ 0) ∗ payToks c)

theorem fund_cells : BI.own (ER (initOf allCells allToks)) ⊢ (|==> bigSep Finset.univ (G x) : sProp 𝕄) := by
  have hX (Φ : GSem nD τ sig → sProp 𝕄) : bigSep allCells Φ = bigSep Finset.univ fun c : Dev nD => bigSep Finset.univ fun k : Key => Φ (kcell c k) := by
    unfold allCells; rw [bigSep_map, bigSep_univ_prod]; rfl
  have hT : bigSep allToks (fun y => (dutyTok ER y.1 y.2.1 y.2.2 : sProp 𝕄)) = bigSep Finset.univ fun c : Dev nD => toks c := by
    unfold allToks; rw [bigSep_map, bigSep_univ_prod]
    exact bigSep_congr fun c _ => by unfold toks; rw [bigSep_univ_sum, bigSep_univ_of_subsingleton ()]; rfl
  iintro HX
  imod (Rounds.fund ER (sched x) allCells allToks) $$ HX with ⟨Hst, Hr, Hat, Htok⟩
  imodintro
  ihave Hst' := (Entails.of_eq (hX fun g => roundState ER (sched x) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier's semaphore is the one the kernel does not scope. -/
theorem unscoped_eq (c : Dev nD) : (unscopedSems0 c : sProp 𝕄) = semVal (kcell c kBar) 0 := by
  unfold unscopedSems0; rw [bigSep_eq_bigSepL_of_eq [SemLoc.reg barSems.sem] (by decide) (by decide)]; rfl

/-- The counters at zero: the barrier's and the kernel's own. -/
theorem sems_eq (c : Dev nD) : (bigSep Finset.univ fun k : Key => semVal (kcell c k) 0 : sProp 𝕄)
    = iprop(unscopedSems0 c ∗ Pipeline.ownSems0 (Ix := Unit) (Name := ℕ) (U := UU) (Lvl := ℕ) (Val := Elt F) (τ := τ) osem c) := by
  rw [bigSep_univ_sum, bigSep_univ_of_subsingleton (), unscoped_eq]; rfl

theorem core_alloc (c : Dev nD) :
    iprop(Pipeline.ownSems0 (Ix := Unit) (Name := ℕ) (U := UU) (Lvl := ℕ) (Val := Elt F) (τ := τ) osem c ∗ unscopedSems0 c ∗ G x c)
      ⊢ |={Set.univ}=> iprop((bigSep Finset.univ fun k => iprop(∃ κ : ℕ, cellInv ER (sched x) κ (kcell c k)))
          ∗ (bigSep Finset.univ fun k => iprop(atPos ER (kcell c k) 0 ∅ 0 ∗ reached ER (kcell c k) 0)) ∗ toks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : Key => semVal (kcell c k) 0) ∗ bigSep Finset.univ fun k : Key => roundState ER (sched x) (kcell c k) 0)
      ⊢ (|={Set.univ}=> bigSep Finset.univ fun k => iprop(∃ κ : ℕ, cellInv ER (sched x) κ (kcell c k)) : sProp 𝕄) from by
        rw [← bigSep_sep']
        exact (bigSep_mono fun k _ => (Rounds.body_intro ER (sched x) (kcell c k)).trans inv_alloc).trans (bigSep_fupd _ _)) $$ [Hv Hst] with Hinv
  · isplitl [Hv] <;> iassumption
  imodintro
  isplitl [Hinv]; · iexact Hinv
  isplitl [Hat]; · iexact Hat
  iexact Htok

/-- The records go to every device beside what it holds. -/
theorem records_to_all (K : Dev nD × Key → ℕ) (Φ : Dev nD → sProp 𝕄) :
    iprop(records x K ∗ bigSep Finset.univ Φ) ⊢ bigSep Finset.univ fun c : Dev nD => iprop(records x K ∗ Φ c) := by
  rw [bigSep_sep']
  iintro ⟨#HR, HΦ⟩
  isplitr
  · iapply (BI.bigSep_of_persistent (Finset.univ : Finset (Dev nD)) (records x K)); iexact HR
  iexact HΦ

theorem held_intro (K : Dev nD × Key → ℕ) (c : Dev nD) :
    iprop(records x K ∗ (bigSep Finset.univ fun k : Key => atPos ER (kcell c k) 0 ∅ 0) ∗ payToks c) ⊢ G' x c := by
  unfold G'
  iintro ⟨HR, H⟩
  iexists K
  isplitl [HR] <;> iassumption

theorem regroup :
    (bigSep Finset.univ fun c : Dev nD => iprop((bigSep Finset.univ fun k : Key => iprop(∃ κ : ℕ, cellInv ER (sched x) κ (kcell c k)))
          ∗ (bigSep Finset.univ fun k : Key => iprop(atPos ER (kcell c k) 0 ∅ 0 ∗ reached ER (kcell c k) 0)) ∗ toks c) : sProp 𝕄)
      ⊢ bigSep Finset.univ (G' x) := by
  rw [bigSep_sep', bigSep_sep', ← bigSep_univ_prod (fun ck : Dev nD × Key => iprop(∃ κ : ℕ, cellInv ER (sched x) κ (kcell ck.1 ck.2))),
    bigSep_congr (s := Finset.univ) (fun (c : Dev nD) _ => bigSep_sep' Finset.univ (fun k : Key => (atPos ER (kcell c k) 0 ∅ 0 : sProp 𝕄)) (fun k => reached ER (kcell c k) 0)),
    bigSep_sep', ← bigSep_univ_prod (fun ck : Dev nD × Key => (reached ER (kcell ck.1 ck.2) 0 : sProp 𝕄))]
  iintro ⟨HI, ⟨Hat, #HR⟩, Htok⟩
  ihave HK := (BI.bigSep_exists_pi Finset.univ (fun (ck : Dev nD × Key) (κ : ℕ) => (cellInv ER (sched x) κ (kcell ck.1 ck.2) : sProp 𝕄))) $$ HI
  icases HK with ⟨%K, #HI⟩
  ihave Htk := (toks_dealt (F := F)) $$ Htok
  iapply ((records_to_all x K fun c => iprop((bigSep Finset.univ fun k : Key => atPos ER (kcell c k) 0 ∅ 0) ∗ payToks c)).trans
    (bigSep_mono fun c _ => held_intro x K c))
  isplitr
  · unfold records; isplitl; · iexact HI
    iexact HR
  · rw [bigSep_sep']
    isplitl [Hat]; · iexact Hat
    iexact Htk

/-- The global step: the invariants of all cells are made, and every token goes where it is paid. -/
theorem glob : (bigSep Finset.univ fun c => iprop(Pipeline.ownSems0 (Ix := Unit) (Name := ℕ) (U := UU) (Lvl := ℕ) (Val := Elt F) (τ := τ) osem c ∗ unscopedSems0 c ∗ G x c) : sProp 𝕄)
    ⊢ |={Set.univ}=> bigSep Finset.univ (G' x) :=
  ((bigSep_mono fun c _ => core_alloc x c).trans (bigSep_fupd _ _)).trans (BI.fupd_mono (regroup x))

end Alloc

/-! ## The credits -/

theorem tiles_sum (f : Tile → CellTallies nD τ sig Unit) : (tiles.map f).sum = ∑ t : Tile, f t := by
  rw [← List.sum_toFinset f (by decide : tiles.Nodup), show tiles.toFinset = Finset.univ by decide]

theorem owed₀_eq : owed₀ = fun c : Dev nD => ((∑ t : Tile, tallyAt (kcell (xDev c) (kLane 3 t)) () (tileAmt t))
    + ∑ t : Tile, tallyAt (kcell (yDev c) (kLane 1 t)) () (tileAmt t))
    + tallyAt (kcell (xDev c) kBar) () 1 + tallyAt (kcell (yDev c) kBar) () 1 := by
  funext c; unfold owed₀ owed₁ owed₂ dueX dueY; rw [tiles_sum, tiles_sum]

/-- What one device owes another along an involution is what the other has credit for. -/
theorem credit_from (k : Key) (f : Dev nD → Dev nD) (hf : ∀ c, f (f c) = c) (n : ℕ) (c : Dev nD) :
    (Pipeline.launchCred (fun d => tallyAt (kcell (f d) k) () n) c : sProp 𝕄) ⊢ cred (tallyAt (kcell c k) () n) :=
  Pipeline.launchCred_tallyAt (csem k) f f hf hf () n c

/-- The same over all tiles of a lane. -/
theorem credits_from (i : Fin 4) (f : Dev nD → Dev nD) (hf : ∀ c, f (f c) = c) (c : Dev nD) :
    (Pipeline.launchCred (fun d => ∑ t : Tile, tallyAt (kcell (f d) (kLane i t)) () (tileAmt t)) c : sProp 𝕄)
      ⊢ bigSep Finset.univ fun t : Tile => cred (tallyAt (kcell c (kLane i t)) () (tileAmt t)) := by
  rw [Pipeline.launchCred_sum]
  exact bigSep_mono fun t _ => credit_from (kLane i t) f hf (tileAmt t) c

/-- No credit is had for the asking. -/
theorem no_credit (g : GSem nD τ sig) : iprop(emp) ⊢ (cred (tallyAt g () 0) : sProp 𝕄) := by
  rw [tallyAt_zero, cred_zero]

theorem no_credits (i : Fin 4) (c : Dev nD) :
    iprop(emp) ⊢ (bigSep Finset.univ fun t : Tile => cred (tallyAt (kcell c (kLane i t)) () 0) : sProp 𝕄) :=
  (Entails.of_eq (bigSep_emp_const _).symm).trans (bigSep_mono fun t _ => no_credit _)

/-- The credits a device starts with, cell by cell. -/
theorem credits (c : Dev nD) :
    (Pipeline.launchCred owed₀ c : sProp 𝕄) ⊢ bigSep Finset.univ fun k : Key => cred (tallyAt (kcell c k) () (launchAmt k)) := by
  rw [owed₀_eq, Pipeline.launchCred_add, Pipeline.launchCred_add, Pipeline.launchCred_add, keys_split]
  iintro ⟨⟨⟨Hx, Hy⟩, Hbx⟩, Hby⟩
  ihave Hx := (credits_from (F := F) 3 xDev xDev_xDev c) $$ Hx
  ihave Hy := (credits_from (F := F) 1 yDev yDev_yDev c) $$ Hy
  ihave Hbx := (credit_from (F := F) kBar xDev xDev_xDev 1 c) $$ Hbx
  ihave Hby := (credit_from (F := F) kBar yDev yDev_yDev 1 c) $$ Hby
  isplitl [Hbx Hby]
  · iapply (show iprop(cred (tallyAt (kcell c kBar) () 1) ∗ cred (tallyAt (kcell c kBar) () 1)) ⊢ (cred (tallyAt (kcell c kBar) () (launchAmt kBar)) : sProp 𝕄) from by
      rw [show launchAmt kBar = 1 + 1 from rfl, ← tallyAt_add]; exact (cred_add _ _).2)
    isplitl [Hbx] <;> iassumption
  isplitr; · iapply (no_credit (F := F) (kcell c kLoc)); iempintro
  isplitr; · iapply (no_credits (F := F) 0 c); iempintro
  isplitl [Hy]; · iexact Hy
  isplitr; · iapply (no_credits (F := F) 2 c); iempintro
  iexact Hx

/-- A device starts from its ghost state, the levels and its credits. -/
theorem start_of (x : Dev nD → S1x2048x1024.Idx → Elt F .f32) (c : Dev nD) :
    iprop(G' x c ∗ levAts L lv ∗ Pipeline.launchCred owed₀ c) ⊢ iprop(∃ K, start x K c) := by
  unfold G' start seat payToks
  iintro ⟨⟨%K, HR, Hat, Hd, Hb⟩, HL, Hc⟩
  ihave Hc := (credits (F := F) c) $$ Hc
  iexists K
  simp only [bigSep_sep']
  isplitl [HR]; · iexact HR
  isplitl [HL]; · iexact HL
  isplitl [Hat Hd Hc]
  · isplitl [Hat]; · iexact Hat
    isplitl [Hd] <;> iassumption
  iexact Hb

end Cert.KernelIdeal.Sum

end
-- ==== Proof.Launch.lean ====
/- The launch: the body at its one grid point, and the run of the four devices from any memory with zero counters. -/
module

public import proofs.«01_k».proof.Proof.Ghost
public import proofs.«01_k».proof.Proof.Gen.KernelIdeal.Points
public import Idealize.ShloMosaic.Lib.Pipeline.Kit
public import Idealize.ShloMosaic.Lib.Pipeline.CollectiveSegs
public import Idealize.ShloMosaic.Lib.Tactic

@[expose] public section

noncomputable section

namespace Cert.KernelIdeal.Sum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero, any generator registers. -/
def atLaunch : MemSt nD τ sig (Elt F) := ⟨m, fun _ => 0, ρ⟩

/-- The argument as each device holds it. -/
def args (c : Dev nD) : S1x2048x1024.Idx → Elt F .f32 := m ((c : Thread nD τ).loc main_arg0)

/-- The argument array, held whole. -/
def argPts (c : Dev nD) : sProp 𝕄 := ((c : Thread nD τ).loc main_arg0) ↦{fullShare} args m c

/-- The three scratch buffers, at any contents. -/
def scratch (c : Dev nD) : sProp 𝕄 :=
  iprop((∃ f, (c : Thread nD τ).loc cc0_scratch0 ↦{fullShare} f) ∗ (∃ f, (c : Thread nD τ).loc cc0_scratch1 ↦{fullShare} f)
    ∗ ∃ f, (c : Thread nD τ).loc cc0_scratch2 ↦{fullShare} f)

/-- A device before the body: its ghost state, the argument, the scratch buffers. -/
def before (c : Dev nD) : sProp 𝕄 := iprop(((∃ K, start (args m) K c) ∗ argPts m c) ∗ scratch c)
/-- After it: the argument and the scratch buffers, every counter at zero. -/
def after (c : Dev nD) : sProp 𝕄 := iprop(argPts m c ∗ (bigSep Finset.univ fun k : Key => semVal (kcell c k) 0) ∗ scratch c)

/-- The pipeline's data: one point, whose one window receives the device's result. -/
def dats (_ : Fin 1) (c : Dev nD) : Dat τ (Elt F) Unit ℕ UU ℕ cfg0 c where
  A w := (atLaunch m ρ).mem ((cfg0.win w).arr.view.loc (c : Thread nD τ))
  after w _ := match w with
    | ⟨0, _⟩ => outAt (args m) c
  Φ t := match t with
    | ⟨0, _⟩ => before m c
    | ⟨_ + 1, _⟩ => after m c
  q _ := fullShare
  owed t := match t with
    | ⟨0, _⟩ => owed₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The staging buffer at given contents. -/
def staged (c : Dev nD) (X : S2048x512.Idx → Elt F .f32) : sProp 𝕄 :=
  iprop(∃ f : Buf (Elt F) ((c : Thread nD τ).loc cc0_stg0_0), ⌜f = X⌝ ∗ (((c : Thread nD τ).loc cc0_stg0_0) ↦{fullShare} f))

def pointPre (c : Dev nD) : sProp 𝕄 :=
  iprop(before m c ∗ (dats m ρ 0 c).owesAt () t0_0.castSucc ∗ (∃ d, staged c ((dats m ρ 0 c).before (0 : Fin 1) t0_0 d)))
def pointPost (c : Dev nD) : sProp 𝕄 :=
  iprop(after m c ∗ (dats m ρ 0 c).owesAt () t0_0.succ ∗ staged c (outAt (args m) c))

theorem sound_point (c : Dev nD) :
    pointPre m ρ c ⊢ runs c (cc0_body argM (Memref.isWhole_whole _) outM (Memref.isWhole_whole _) locM (Memref.isWhole_whole _)
      ryM (Memref.isWhole_whole _) rxM (Memref.isWhole_whole _) cc0_scratch3 cc0_scratch4 cc0_scratch5 cc0_scratch6 cc0_scratch7) (fun _ => pointPost m ρ c) := by
  rw [body_eq_loops]
  unfold pointPre pointPost before after scratch staged argPts Dat.owesAt Pipeline.owesWithin
  iintro ⟨⟨⟨⟨%K, Hs⟩, Hx⟩, Hl, Hy, Hr⟩, ⟨%W, %hW, HO⟩, ⟨%d, %g, %hg, Hout⟩⟩
  iapply (sound_loops (args m) K c)
  unfold bodyPre bodyPost
  isplitl
  · isplitl [Hs]; · iexact Hs
    isplitl [HO]; · unfold owing; iexists W; iexact HO
    isplitl [Hx]; · iexact Hx
    isplitl [Hl]; · iexact Hl
    isplitl [Hy]; · iexact Hy
    isplitl [Hr]; · iexact Hr
    iexists g; iexact Hout
  · unfold owing
    iintro ⟨⟨%W', HO⟩, Hx, Hz, Hl, Hy, Hr, Hout⟩
    isplitl [Hx Hz Hl Hy Hr]
    · isplitl [Hx]; · iexact Hx
      isplitl [Hz]; · iexact Hz
      isplitl [Hl]; · iexact Hl
      isplitl [Hy] <;> iassumption
    isplitl [HO]
    · iexists W'
      isplitr; · ipureintro; exact fun _ _ => Or.inl trivial
      iexact HO
    iexists _; isplitr; · (ipureintro; rfl)
    iexact Hout

set_option maxRecDepth 100000 in
/-- The body's obligation to the pipeline. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  exact sound_point m ρ c

/-! ## The launch's conditions -/

theorem ownSemFacts : Pipeline.OwnSemFacts cfg0.spec osem where
  isScoped := by decide +kernel
  inj := by decide +kernel
  disj := by decide +kernel

theorem share_eq (c : Dev nD) (w : Fin cfg0.W) : (dats m ρ 0 c).share w = fullShare := by unfold Dat.share; split <;> rfl

/-- The launch element. -/
def u₀ : UU :=
  (initOf (Pipeline.cells cfgs cellOf_inj) (Pipeline.launchToks cfgs cellOf_inj), initOf allCells allToks)

theorem waits (c : Dev nD) : (levAts L lv : sProp 𝕄) ⊢ Pipeline.cellsWaits cfgs (dats m ρ) () 0 c :=
  Pipeline.cellsWaits_intro cfgs (dats m ρ) () 0 c fun w s t => by
    refine mayWait c _ _ ?_
    have h0 : lv ((c : Thread nD τ), .dma (((cfgs 0).win w).sem s)) () = 0 := by
      fin_cases w; fin_cases s; rfl
    rw [show lv _ () = 0 from h0]
    rcases t with ⟨_ | _, ht⟩
    · exact above_owed₀ c
    · exact Above.zero 0

/-- What the body starts from beside the scratch buffers. -/
def entry (c : Dev nD) : sProp 𝕄 := iprop((∃ K, start (args m) K c) ∗ argPts m c)

theorem entry_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' (args m) c)
      ⊢ |={Set.univ}=> iprop(entry m c ∗ emp) := by
  rw [Pipeline.unscopedRestP_none, unscopedRest0_eq]
  iintro ⟨Hx, Hlev, Hcr, -, HG⟩
  imodintro
  unfold entry argPts args
  isplitl
  · isplitr [Hx]
    · iapply (start_of (args m) c)
      isplitl [HG]; · iexact HG
      isplitl [Hlev] <;> iassumption
    iexact Hx
  · iempintro

theorem phi_first (c : Dev nD) :
    iprop(entry m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m c from rfl, scopedRest0_eq]
  unfold before entry scratch
  iintro ⟨He, -, Hr⟩
  isplitl [He]; · iexact He
  iexact Hr

theorem phi_last (c : Dev nD) :
    (dats m ρ 0 c).Φ (Fin.last cfg0.N)
      ⊢ iprop((argPts m c ∗ unscopedSems0 c) ∗ Pipeline.ownSems0 osem c ∗ Pipeline.scopedRest cfg0.spec c) := by
  rw [show (dats m ρ 0 c).Φ (Fin.last cfg0.N) = after m c from rfl, scopedRest0_eq]
  unfold after scratch
  rw [sems_eq]
  iintro ⟨Hx, ⟨Hu, Ho⟩, Hr⟩
  isplitl [Hx Hu]; · isplitl [Hx] <;> iassumption
  isplitl [Ho] <;> iassumption

/-- What a final state shows of a device: the argument unchanged, its unscoped counters at zero. -/
def shown (c : Dev nD) (s : MemSt nD τ sig (Elt F)) : Prop :=
  s.mem ((c : Thread nD τ).loc main_arg0) = args m c ∧ ∀ sm : SemLoc sig, sm.isScoped .tc = false → s.sem ((c.tc : Thread nD τ), sm) = 0

theorem shows (c : Dev nD) (s' : Phys nD τ sig (Elt F)) :
    iprop((argPts m c ∗ unscopedSems0 c) ∗ emp ∗ SI s') ⊢ |={Set.univ}=> iprop(⌜shown m c s'.mem⌝ ∗ (SI s' : sProp 𝕄)) := by
  unfold argPts
  iintro ⟨⟨Hx, Hu⟩, -, HSI⟩
  ihave Hr := (pointsTo_read_all ({()} : Finset Unit) (fun _ => (c : Thread nD τ).loc main_arg0) (fun _ => args m c) s') $$ [Hx HSI]
  · isplitl [Hx]; · rw [bigSep_singleton]; iexact Hx
    iexact HSI
  icases Hr with ⟨%hx, HSI⟩
  imod (Pipeline.unscopedSems0_read (X := unscopedSems0 c) (c := c) fupd_intro s') $$ [Hu HSI] with Hr
  · isplitl [Hu] <;> iassumption
  icases Hr with ⟨%hu, HSI⟩
  imodintro
  isplitr; · ipureintro; exact ⟨hx () (Finset.mem_singleton_self _), hu⟩
  iexact HSI

/-! ## The run -/

/-- The window's one block is the whole array, -/
theorem read_res (c : Dev nD) (f : Buf (Elt F) ((c : Thread nD τ).loc main_v1)) : (win0_0.blk t0_0).view.read (Elt F) f = f :=
  Memref.read_access_unit_zero (Elt F) main_v1
    (show (fun a => (win0_0.index t0_0) a * main_v1.ty.shape.size a) = fun _ => 0 from
      funext fun a => by fin_cases a <;> decide) (fun a => by fin_cases a <;> decide) f
/-- and it is written back uncut, -/
theorem flushed_res (c : Dev nD) : (dats m ρ 0 c).flushed (0 : Fin 1) t0_0 = outAt (args m) c := by
  show (cfg0.win 0).cut _ ((dats m ρ 0 c).after (0 : Fin 1) t0_0) = _
  exact funext fun _ => rfl
/-- so the result array receives the whole of what the body left. -/
theorem res_eq (c : Dev nD) : (dats m ρ 0 c).arrAt (0 : Fin 1) cfg0.N = outAt (args m) c := by
  have hw : ((cfg0.win 0).blk t0_0).view.read (Elt F) ((dats m ρ 0 c).arrAt (0 : Fin 1) cfg0.N) = (dats m ρ 0 c).flushed (0 : Fin 1) t0_0 := by
    rw [show cfg0.N = t0_0.val + 1 from rfl, (dats m ρ 0 c).arrAt_succ (0 : Fin 1) t0_0, flush0_0, if_pos rfl]
    exact View.read_write_univ _ _
  rw [flushed_res] at hw
  exact (read_res c _).symm.trans hw

set_option maxRecDepth 100000 in
/-- From any memory with zero counters every run of the four devices ends, with each device's result array at `outAt`, its
    argument unchanged and every counter at zero. -/
theorem run_main : θ_run defs (onTc (τ := τ) (main (F := F))) (atLaunch m ρ) (fun r =>
    (∀ c : Dev nD, r.2.mem ((c : Thread nD τ).loc main_v1) = outAt (args m) c ∧ r.2.mem ((c : Thread nD τ).loc main_arg0) = args m c)
      ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G (args m)) (G' := G' (args m)) (u₀ := u₀)
    (hu₀ := by
      unfold u₀
      iintro Hu
      ihave H := (ownU_pair _ _) $$ Hu
      icases H with ⟨HP, HX⟩
      imod (fund_cells (args m)) $$ HX with HG
      imodintro
      isplitl [HP] <;> iassumption)
    (hglob := glob (args m))
    (hA := fun _ _ => rfl) (hpf := fun _ k => k.elim0)
    (X := entry m) (Y := fun c => iprop(argPts m c ∗ unscopedSems0 c)) (Z := fun _ => iprop(emp))
    (hX := entry_intro m ρ) (hin := phi_first m ρ) (hout := phi_last m ρ)
    (QY := shown m) (hY := shows m)
    (hQ := fun _ h hs => ⟨fun c => ⟨((h c).1 0).trans (res_eq m ρ c), (h c).2.2.1⟩, sem_eq_zero hs fun c => (h c).2.2.2⟩)

end Cert.KernelIdeal.Sum

end
-- ==== Proof.Value.lean ====
/- What each device's result is of the whole array: its own columns, summed over the two layers.

   The array has two layers, rows and columns. Device `d` holds layer `d % 2`, and its result is the columns of block `d % 2`. -/
module

public import proofs.«01_k».proof.Proof.Contents
public import Idealize.ShloMosaic.Lib.ValueIdx
public import Idealize.ShloMosaic.Lib.IdealHost
public import Idealize.ShloMosaic.Lib.Layout
public import Idealize.ShloMosaic.Lib.Pointwise.Reduce

@[expose] public section

noncomputable section

namespace Cert.KernelIdeal.Sum

open Cert.KernelIdeal Cert.KernelIdeal.Gen
open Idealize.ShloMosaic Idealize.ShloMosaic.ValueIdx

/-- The shape of the whole argument, and of the whole result. -/
abbrev Whole : Shape := ⟨3, ![2, 2048, 1024]⟩
abbrev Total : Shape := ⟨2, ![2048, 1024]⟩

/-- The element of the whole argument at a layer, a row and a column. -/
def at3 (k r q : ℕ) (hk : k < 2) (hr : r < 2048) (hq : q < 1024) : Whole.Idx :=
  ValueIdx.ix3 ⟨k, hk⟩ ⟨r, hr⟩ ⟨q, hq⟩

theorem at3_congr {k k' r r' q q' : ℕ} (ek : k = k') (er : r = r') (eq : q = q') (hk : k < 2) (hr : r < 2048) (hq : q < 1024) :
    at3 k r q hk hr hq = at3 k' r' q' (ek ▸ hk) (er ▸ hr) (eq ▸ hq) := by subst ek er eq; rfl

/-- An element is the one at its coordinates. -/
theorem eq_at3 (i : Whole.Idx) {k r q : ℕ} (hk : (i 0).val = k) (hr : (i 1).val = r) (hq : (i 2).val = q) :
    i = at3 k r q (hk ▸ (i 0).isLt) (hr ▸ (i 1).isLt) (hq ▸ (i 2).isLt) := by
  subst hk hr hq
  funext a
  match a with
  | ⟨0, _⟩ => rfl
  | ⟨1, _⟩ => rfl
  | ⟨2, _⟩ => rfl

section Sums
variable {α : Type} (A : Whole.Idx → α)

/-- The layer of the whole argument that device `d` holds. -/
def layer (d : Dev nD) : S1x2048x1024.Idx → α :=
  Layout.blockN ⟨3, ![1, 2048, 1024]⟩ ⟨3, ![2, 2048, 1024]⟩ (Layout.meshBlock [2, 2] ![[1], [], []] d) A

theorem mesh_layer : ∀ d : Dev nD, ((Layout.meshBlock [2, 2] ![[1], [], []] d) 0).val = d.val % 2 := by decide
theorem mesh_column : ∀ d : Dev nD, ((Layout.meshBlock [2, 2] ![[], [1]] d) 1).val = d.val % 2 := by decide

/-- The layer of device `d`, element by element. -/
theorem layer_apply (d : Dev nD) (i : S1x2048x1024.Idx) {r q : ℕ} (hr : (i 1).val = r) (hq : (i 2).val = q) :
    layer A d i = A (at3 (d.val % 2) r q (Nat.mod_lt _ (by decide)) (hr ▸ (i 1).isLt) (hq ▸ (i 2).isLt)) := by
  refine congrArg A (eq_at3 _ ?_ ?_ ?_)
  · show ((Layout.meshBlock [2, 2] ![[1], [], []] d) 0).val * 1 + (i 0).val = _
    have h : (i 0).val < 1 := (i 0).isLt
    rw [mesh_layer]; omega
  · show 0 * 2048 + (i 1).val = _; omega
  · show 0 * 1024 + (i 2).val = _; omega

end Sums

section Received
variable {F : FTy → Type} [FloatOps F] (A : Whole.Idx → Elt F .f32)

theorem row_lt (i : S2048x512.Idx) : (i 0).val < 2048 := (i 0).isLt
theorem column_lt (d : Dev nD) (i : S2048x512.Idx) : 512 * (d.val % 2) + (i 1).val < 1024 := by
  have h : (i 1).val < 512 := (i 1).isLt
  omega

/-- What a device keeps is its own layer at its own columns. -/
theorem kept_eq (d : Dev nD) (i : S2048x512.Idx) : keptAt (layer A) d i
    = A (at3 (d.val % 2) (i 0).val (512 * (d.val % 2) + (i 1).val) (Nat.mod_lt _ (by decide)) (row_lt i) (column_lt d i)) :=
  layer_apply A d (kept d i) rfl rfl

/-- What device `e` received, at the row half of `e`, is the other layer at the columns of the block of `e`. -/
theorem recv_eq (d e : Dev nD) (i : S2048x512.Idx) (hb : e.val % 2 = d.val % 2) (hh : (i 0).val / 1024 = e.val / 2) :
    recvY (layer A) e (low i)
      = A (at3 (1 - d.val % 2) (i 0).val (512 * (d.val % 2) + (i 1).val) (by omega) (row_lt i) (column_lt d i)) := by
  have hy := yDev_half e
  have hc := yDev_block e
  refine (layer_apply A (yDev e) (sent (yDev e) (low i)) (r := (i 0).val) (q := 512 * (d.val % 2) + (i 1).val) ?_ ?_).trans
    (congrArg A (at3_congr (hc.trans (by rw [hb])) rfl rfl _ _ _))
  · show 1024 * ((yDev e).val / 2) + (i 0).val % 1024 = _; omega
  · show 512 - 512 * ((yDev e).val % 2) + (i 1).val = _; omega

/-- The result of a device is its own columns of its own layer plus the same columns of the other layer. -/
theorem out_eq (d : Dev nD) (i : S2048x512.Idx) : outAt (layer A) d i = FloatOps.addf (φ := .f32)
      (A (at3 (d.val % 2) (i 0).val (512 * (d.val % 2) + (i 1).val) (Nat.mod_lt _ (by decide)) (row_lt i) (column_lt d i)))
      (A (at3 (1 - d.val % 2) (i 0).val (512 * (d.val % 2) + (i 1).val) (by omega) (row_lt i) (column_lt d i))) := by
  unfold outAt recvX
  rw [kept_eq]
  refine congrArg _ ?_
  split
  · next h => exact recv_eq A d d i rfl h
  · next h =>
    refine recv_eq A d (xDev d) i (xDev_block d) ?_
    have := xDev_half d; have := row_lt i; have hd : d.val < 4 := d.isLt
    omega

end Received

/-! ## The sum of the layers -/

/-- The sum of the two layers. -/
def total (A : Whole.Idx → EReal) : Total.Idx → EReal := fun j =>
  A (at3 0 (j 0).val (j 1).val (by decide) (j 0).isLt (j 1).isLt) + A (at3 1 (j 0).val (j 1).val (by decide) (j 0).isLt (j 1).isLt)

/-- Two layers summed in either order give their sum. -/
theorem two_layers (A : Whole.Idx → EReal) (b r q : ℕ) (hb : b < 2) (hr : r < 2048) (hq : q < 1024) :
    A (at3 b r q hb hr hq) + A (at3 (1 - b) r q (by omega) hr hq)
      = A (at3 0 r q (by decide) hr hq) + A (at3 1 r q (by decide) hr hq) := by
  obtain rfl | rfl : b = 0 ∨ b = 1 := by omega
  · rfl
  · exact add_comm _ _

/-- Exactly computed, the result of a device is its block of columns of the sum of the layers. -/
theorem out_eq_block (A : Whole.Idx → EReal) (d : Dev nD) : outAt (F := Ideal) (layer A) d
    = Layout.blockN ⟨2, ![2048, 512]⟩ ⟨2, ![2048, 1024]⟩ (Layout.meshBlock [2, 2] ![[], [1]] d) (total A) := by
  funext i
  rw [out_eq (F := Ideal) A d i]
  refine (two_layers A (d.val % 2) (i 0).val (512 * (d.val % 2) + (i 1).val) (Nat.mod_lt _ (by decide)) (row_lt i) (column_lt d i)).trans ?_
  have er : (i 0).val = 0 * 2048 + (i 0).val := by omega
  have eq : 512 * (d.val % 2) + (i 1).val = ((Layout.meshBlock [2, 2] ![[], [1]] d) 1).val * 512 + (i 1).val := by
    rw [mesh_column]; omega
  exact congrArg₂ (· + ·) (congrArg A (at3_congr rfl er eq _ _ _)) (congrArg A (at3_congr rfl er eq _ _ _))

end Cert.KernelIdeal.Sum

end
-- ==== Proof.Ref.lean ====
/- What the reference computes: the sum of the two layers. -/
module

public import proofs.«01_k».proof.Proof.Value
public import proofs.«01_k».proof.Proof.Gen.ReferenceIdeal.Run

@[expose] public section

noncomputable section

namespace Cert.KernelIdeal.Sum

open Idealize.ShloMosaic Idealize.ShloMosaic.ValueIdx

/-- Exactly computed, the reference's reduction over the first axis is the sum of the layers. -/
theorem ref_eq (A : Whole.Idx → EReal) :
    Host.reduceAdd (F := Ideal) (φ := .f32) A (constant Cert.ReferenceIdeal.S_ .f32 0x00000000#32)
      Cert.ReferenceIdeal.Gen.reducesTo_S2x2048x1024_S2048x1024_d0 Cert.ReferenceIdeal.Gen.h_S_ = total A := by
  funext j
  rw [hostReduceAdd_apply, constant_apply, Ideal.ofBits_zero_f32, Ideal.hostReduceAdd_r3_a0, zero_add, Fin.sum_univ_two]
  rfl

end Cert.KernelIdeal.Sum

end
-- ==== Proof.lean ====
/- The five claims, from the run of the kernel and the reference's run.

   The kernel's run is stated once, for any float values: at `Bits` it gives the frame of the kernel as printed, whose text is
   the idealization's, and at `Ideal` the idealization's frame and the value claim. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Ref
public import Idealize.ShloMosaic.Adequacy
public import Idealize.ShloMosaic.Init

@[expose] public section

noncomputable section

namespace Cert.Proof

open Idealize.ShloMosaic Idealize.SL.Sem Cert.KernelIdeal.Sum

/-- The kernel and its idealization have the same text, so the same runs. -/
theorem same_run (m : (ℓ : Loc Cert.Kernel.nD Cert.Kernel.τ Cert.Kernel.sig) → Buf (Elt Bits) ℓ) (ρ : Dev Cert.Kernel.nD → PrngReg)
    (Q : PUnit × MemSt Cert.Kernel.nD Cert.Kernel.τ Cert.Kernel.sig (Elt Bits) → Prop) :
    θ_run (Cert.Kernel.defs (F := Bits)) (onTc (τ := Cert.Kernel.τ) (Cert.Kernel.main (F := Bits))) ⟨m, fun _ => 0, ρ⟩ Q
      = θ_run (Cert.KernelIdeal.defs (F := Bits)) (onTc (τ := Cert.KernelIdeal.τ) (Cert.KernelIdeal.main (F := Bits))) ⟨m, fun _ => 0, ρ⟩ Q := by
  chain_rfl

/-- The kernel runs, leaves its argument as it was and every counter at zero. -/
theorem frame_kernel : Cert.quiescent_Kernel (hKernel := Cert.Kernel.Gen.facts) := fun m ρ _ =>
  (same_run m ρ _).mpr
    ((θ_run Cert.KernelIdeal.defs _ _).mono (fun _ h => ⟨fun c => (h.1 c).2, h.2⟩) (run_main (F := Bits) m ρ))

/-- So does its idealization. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (run_main (F := Ideal) m ρ)

/-- So does the reference, which has no counter. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Exactly computed, each device's result is its block of columns of the reference's. -/
theorem algebraic : Cert.algebraic_KernelIdeal_ReferenceIdeal (hKernelIdeal := Cert.KernelIdeal.Gen.facts)
    (hReferenceIdeal := Cert.ReferenceIdeal.Gen.facts) := fun m ρ m' ρ' _ hm =>
  ⟨_, (θ_run Cert.KernelIdeal.defs _ _).mono (fun _ h c => ⟨((h.1 c).1.trans (congrFun (congrArg outAt (funext hm)) c)).trans
        ((out_eq_block _ c).trans (congrArg (Layout.blockN ⟨2, ![2048, 512]⟩ ⟨2, ![2048, 1024]⟩ (Layout.meshBlock [2, 2] ![[], [1]] c)) (ref_eq _).symm)),
      (h.1 c).2⟩) (run_main (F := Ideal) m ρ),
    (θ_run Cert.ReferenceIdeal.defs _ _).mono (fun _ h => h 0) (Cert.ReferenceIdeal.Value.run (F := Ideal) m' ρ')⟩

/-- All claims together. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
